-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x384x224x224 : Shape := ⟨4, ![4, 384, 224, 224]⟩
abbrev S3 : Shape := ⟨1, ![3]⟩
abbrev S24x1x64 : Shape := ⟨3, ![24, 1, 64]⟩
abbrev S1x64x224x224 : Shape := ⟨4, ![1, 64, 224, 224]⟩
abbrev S1x1x64 : Shape := ⟨3, ![1, 1, 64]⟩
abbrev S64x224x224 : Shape := ⟨3, ![64, 224, 224]⟩
abbrev S64x224 : Shape := ⟨2, ![64, 224]⟩
abbrev S64 : Shape := ⟨1, ![64]⟩
abbrev S4x384 : Shape := ⟨2, ![4, 384]⟩
abbrev S_ : Shape := ⟨0, ![]⟩
abbrev S4x386 : Shape := ⟨2, ![4, 386]⟩
abbrev S1 : Shape := ⟨1, ![1]⟩
abbrev S384x4 : Shape := ⟨2, ![384, 4]⟩
abbrev S192x4 : Shape := ⟨2, ![192, 4]⟩
abbrev S384x384 : Shape := ⟨2, ![384, 384]⟩
abbrev S192x384 : Shape := ⟨2, ![192, 384]⟩
abbrev S1x384 : Shape := ⟨2, ![1, 384]⟩
abbrev S384x1 : Shape := ⟨2, ![384, 1]⟩
abbrev S384 : Shape := ⟨1, ![384]⟩
abbrev S192 : Shape := ⟨1, ![192]⟩
abbrev S192x1 : Shape := ⟨2, ![192, 1]⟩
abbrev S4x192 : Shape := ⟨2, ![4, 192]⟩
abbrev S4x192x224x224 : Shape := ⟨4, ![4, 192, 224, 224]⟩
abbrev S3x16x224x224 : Shape := ⟨4, ![3, 16, 224, 224]⟩
abbrev S2x16 : Shape := ⟨2, ![2, 16]⟩
abbrev S1x1 : Shape := ⟨2, ![1, 1]⟩
abbrev S1x1x224x224 : Shape := ⟨4, ![1, 1, 224, 224]⟩
abbrev S1x16x224x224 : Shape := ⟨4, ![1, 16, 224, 224]⟩

abbrev nBuf : Space → Nat
  | .hbm => 35
  | .vmem => 8
  | .smem => 1
  | _ => 0

abbrev bufTy : (tb : Table) → Fin (tcTables nBuf tb) → BufTy
  | .hbm, ⟨0, _⟩ => ⟨S4x384x224x224, .f32⟩
  | .hbm, ⟨1, _⟩ => ⟨S3, .f32⟩
  | .hbm, ⟨2, _⟩ => ⟨S24x1x64, .f32⟩
  | .hbm, ⟨3, _⟩ => ⟨S4x384, .f32⟩
  | .hbm, ⟨4, _⟩ => ⟨S_, .i32⟩
  | .hbm, ⟨5, _⟩ => ⟨S_, .f32⟩
  | .hbm, ⟨6, _⟩ => ⟨S4x386, .f32⟩
  | .hbm, ⟨7, _⟩ => ⟨S1, .f32⟩
  | .hbm, ⟨8, _⟩ => ⟨S_, .f32⟩
  | .hbm, ⟨9, _⟩ => ⟨S4x384, .f32⟩
  | .hbm, ⟨10, _⟩ => ⟨S4x384, .f32⟩
  | .hbm, ⟨11, _⟩ => ⟨S4x384, .f32⟩
  | .hbm, ⟨12, _⟩ => ⟨S1, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S4x384, .f32⟩
  | .hbm, ⟨18, _⟩ => ⟨S1, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S4x384, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S_, .f32⟩
  | .hbm, ⟨30, _⟩ => ⟨S4x384, .f32⟩
  | .hbm, ⟨31, _⟩ => ⟨S4x384, .f32⟩
  | .hbm, ⟨32, _⟩ => ⟨S384x4, .f32⟩
  | .hbm, ⟨33, _⟩ => ⟨S192x4, .i32⟩
  | .hbm, ⟨34, _⟩ => ⟨S4x192x224x224, .f32⟩
  | .local _ .vmem, ⟨0, _⟩ => ⟨S1x64x224x224, .f32⟩
  | .local _ .vmem, ⟨1, _⟩ => ⟨S1x64x224x224, .f32⟩
  | .local _ .vmem, ⟨2, _⟩ => ⟨S1x1x64, .f32⟩
  | .local _ .vmem, ⟨3, _⟩ => ⟨S1x1x64, .f32⟩
  | .local _ .vmem, ⟨4, _⟩ => ⟨S4x384, .f32⟩
  | .local _ .vmem, ⟨5, _⟩ => ⟨S384x4, .f32⟩
  | .local _ .vmem, ⟨6, _⟩ => ⟨S192x4, .i32⟩
  | .local _ .vmem, ⟨7, _⟩ => ⟨S3x16x224x224, .f32⟩
  | .local _ .smem, ⟨0, _⟩ => ⟨S4x192, .i32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v29 : Ref sig .tc := ⟨.hbm, 34, rfl⟩
abbrev main_v28 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := .none

abbrev stage1_0 : Fin 1 → Memref sig .tc .vmem S4x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S384x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S192x4 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![1], ![false]⟩

abbrev pre2 : Pipeline.Prefetch sig := ⟨1, ![main_v28.idx], fun | 0 => main_v28.names | ⟨_ + 1, h⟩ => absurd h (Nat.not_lt.2 (Nat.le_add_left _ _)), fun | 0 => rfl | ⟨_ + 1, h⟩ => absurd h (Nat.not_lt.2 (Nat.le_add_left _ _))⟩

def k2_off1 : Fin 2 → Nat :=
  let c0 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c0_i32_0 : BitVec 32 := 0#32
  let v2 : BitVec 32 := Scalar.addi v1 c0_i32_0
  let v3 : Index := Scalar.indexCast v2
  ![0, v3.toNat]
def k2_off2 (v4 : BitVec 32) : Fin 4 → Nat :=
  let c0_i32_7 : BitVec 32 := 0#32
  let c0_i32_8 : BitVec 32 := 0#32
  let c0_i32_9 : BitVec 32 := 0#32
  ![0, v4.toNat, 0, 0]

def k2_chk1 (v4 : BitVec 32) : Prop :=
  (∀ a, (k2_off2 v4) a + S1x1x224x224.size a ≤ S4x384x224x224.size a)
theorem k2_off2_inb : ∀ (v4 : BitVec 32) (k2_hw1 : k2_chk1 v4), ∀ a, (k2_off2 v4) a + S1x1x224x224.size a ≤ S4x384x224x224.size a := fun v4 k2_hw1 => k2_hw1

def k2_off3 : Fin 2 → Nat :=
  let c0_10 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c1_i32 : BitVec 32 := 1#32
  let v9 : BitVec 32 := Scalar.addi v1 c1_i32
  let v10 : Index := Scalar.indexCast v9
  ![0, v10.toNat]
def k2_off4 (v11 : BitVec 32) : Fin 4 → Nat :=
  let c0_i32_17 : BitVec 32 := 0#32
  let c0_i32_18 : BitVec 32 := 0#32
  let c0_i32_19 : BitVec 32 := 0#32
  ![0, v11.toNat, 0, 0]

def k2_chk2 (v11 : BitVec 32) : Prop :=
  (∀ a, (k2_off4 v11) a + S1x1x224x224.size a ≤ S4x384x224x224.size a)
theorem k2_off4_inb : ∀ (v11 : BitVec 32) (k2_hw2 : k2_chk2 v11), ∀ a, (k2_off4 v11) a + S1x1x224x224.size a ≤ S4x384x224x224.size a := fun v11 k2_hw2 => k2_hw2

def k2_off5 : Fin 2 → Nat :=
  let c0_20 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c2_i32 : BitVec 32 := 2#32
  let v16 : BitVec 32 := Scalar.addi v1 c2_i32
  let v17 : Index := Scalar.indexCast v16
  ![0, v17.toNat]
def k2_off6 (v18 : BitVec 32) : Fin 4 → Nat :=
  let c0_i32_27 : BitVec 32 := 0#32
  let c0_i32_28 : BitVec 32 := 0#32
  let c0_i32_29 : BitVec 32 := 0#32
  ![0, v18.toNat, 0, 0]

def k2_chk3 (v18 : BitVec 32) : Prop :=
  (∀ a, (k2_off6 v18) a + S1x1x224x224.size a ≤ S4x384x224x224.size a)
theorem k2_off6_inb : ∀ (v18 : BitVec 32) (k2_hw3 : k2_chk3 v18), ∀ a, (k2_off6 v18) a + S1x1x224x224.size a ≤ S4x384x224x224.size a := fun v18 k2_hw3 => k2_hw3

def k2_off7 : Fin 2 → Nat :=
  let c0_30 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c3_i32 : BitVec 32 := 3#32
  let v23 : BitVec 32 := Scalar.addi v1 c3_i32
  let v24 : Index := Scalar.indexCast v23
  ![0, v24.toNat]
def k2_off8 (v25 : BitVec 32) : Fin 4 → Nat :=
  let c0_i32_37 : BitVec 32 := 0#32
  let c0_i32_38 : BitVec 32 := 0#32
  let c0_i32_39 : BitVec 32 := 0#32
  ![0, v25.toNat, 0, 0]

def k2_chk4 (v25 : BitVec 32) : Prop :=
  (∀ a, (k2_off8 v25) a + S1x1x224x224.size a ≤ S4x384x224x224.size a)
theorem k2_off8_inb : ∀ (v25 : BitVec 32) (k2_hw4 : k2_chk4 v25), ∀ a, (k2_off8 v25) a + S1x1x224x224.size a ≤ S4x384x224x224.size a := fun v25 k2_hw4 => k2_hw4

def k2_off9 : Fin 2 → Nat :=
  let c0_40 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c4_i32 : BitVec 32 := 4#32
  let v30 : BitVec 32 := Scalar.addi v1 c4_i32
  let v31 : Index := Scalar.indexCast v30
  ![0, v31.toNat]
def k2_off10 (v32 : BitVec 32) : Fin 4 → Nat :=
  let c0_i32_47 : BitVec 32 := 0#32
  let c0_i32_48 : BitVec 32 := 0#32
  let c0_i32_49 : BitVec 32 := 0#32
  ![0, v32.toNat, 0, 0]

def k2_chk5 (v32 : BitVec 32) : Prop :=
  (∀ a, (k2_off10 v32) a + S1x1x224x224.size a ≤ S4x384x224x224.size a)
theorem k2_off10_inb : ∀ (v32 : BitVec 32) (k2_hw5 : k2_chk5 v32), ∀ a, (k2_off10 v32) a + S1x1x224x224.size a ≤ S4x384x224x224.size a := fun v32 k2_hw5 => k2_hw5

def k2_off11 : Fin 2 → Nat :=
  let c0_50 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c5_i32 : BitVec 32 := 5#32
  let v37 : BitVec 32 := Scalar.addi v1 c5_i32
  let v38 : Index := Scalar.indexCast v37
  ![0, v38.toNat]
def k2_off12 (v39 : BitVec 32) : Fin 4 → Nat :=
  let c0_i32_57 : BitVec 32 := 0#32
  let c0_i32_58 : BitVec 32 := 0#32
  let c0_i32_59 : BitVec 32 := 0#32
  ![0, v39.toNat, 0, 0]

def k2_chk6 (v39 : BitVec 32) : Prop :=
  (∀ a, (k2_off12 v39) a + S1x1x224x224.size a ≤ S4x384x224x224.size a)
theorem k2_off12_inb : ∀ (v39 : BitVec 32) (k2_hw6 : k2_chk6 v39), ∀ a, (k2_off12 v39) a + S1x1x224x224.size a ≤ S4x384x224x224.size a := fun v39 k2_hw6 => k2_hw6

def k2_off13 : Fin 2 → Nat :=
  let c0_60 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c6_i32 : BitVec 32 := 6#32
  let v44 : BitVec 32 := Scalar.addi v1 c6_i32
  let v45 : Index := Scalar.indexCast v44
  ![0, v45.toNat]
def k2_off14 (v46 : BitVec 32) : Fin 4 → Nat :=
  let c0_i32_67 : BitVec 32 := 0#32
  let c0_i32_68 : BitVec 32 := 0#32
  let c0_i32_69 : BitVec 32 := 0#32
  ![0, v46.toNat, 0, 0]

def k2_chk7 (v46 : BitVec 32) : Prop :=
  (∀ a, (k2_off14 v46) a + S1x1x224x224.size a ≤ S4x384x224x224.size a)
theorem k2_off14_inb : ∀ (v46 : BitVec 32) (k2_hw7 : k2_chk7 v46), ∀ a, (k2_off14 v46) a + S1x1x224x224.size a ≤ S4x384x224x224.size a := fun v46 k2_hw7 => k2_hw7

def k2_off15 : Fin 2 → Nat :=
  let c0_70 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c7_i32 : BitVec 32 := 7#32
  let v51 : BitVec 32 := Scalar.addi v1 c7_i32
  let v52 : Index := Scalar.indexCast v51
  ![0, v52.toNat]
def k2_off16 (v53 : BitVec 32) : Fin 4 → Nat :=
  let c0_i32_77 : BitVec 32 := 0#32
  let c0_i32_78 : BitVec 32 := 0#32
  let c0_i32_79 : BitVec 32 := 0#32
  ![0, v53.toNat, 0, 0]

def k2_chk8 (v53 : BitVec 32) : Prop :=
  (∀ a, (k2_off16 v53) a + S1x1x224x224.size a ≤ S4x384x224x224.size a)
theorem k2_off16_inb : ∀ (v53 : BitVec 32) (k2_hw8 : k2_chk8 v53), ∀ a, (k2_off16 v53) a + S1x1x224x224.size a ≤ S4x384x224x224.size a := fun v53 k2_hw8 => k2_hw8

def k2_off17 : Fin 2 → Nat :=
  let c0_80 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c8_i32 : BitVec 32 := 8#32
  let v58 : BitVec 32 := Scalar.addi v1 c8_i32
  let v59 : Index := Scalar.indexCast v58
  ![0, v59.toNat]
def k2_off18 (v60 : BitVec 32) : Fin 4 → Nat :=
  let c0_i32_87 : BitVec 32 := 0#32
  let c0_i32_88 : BitVec 32 := 0#32
  let c0_i32_89 : BitVec 32 := 0#32
  ![0, v60.toNat, 0, 0]

def k2_chk9 (v60 : BitVec 32) : Prop :=
  (∀ a, (k2_off18 v60) a + S1x1x224x224.size a ≤ S4x384x224x224.size a)
theorem k2_off18_inb : ∀ (v60 : BitVec 32) (k2_hw9 : k2_chk9 v60), ∀ a, (k2_off18 v60) a + S1x1x224x224.size a ≤ S4x384x224x224.size a := fun v60 k2_hw9 => k2_hw9

def k2_off19 : Fin 2 → Nat :=
  let c0_90 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c9_i32 : BitVec 32 := 9#32
  let v65 : BitVec 32 := Scalar.addi v1 c9_i32
  let v66 : Index := Scalar.indexCast v65
  ![0, v66.toNat]
def k2_off20 (v67 : BitVec 32) : Fin 4 → Nat :=
  let c0_i32_97 : BitVec 32 := 0#32
  let c0_i32_98 : BitVec 32 := 0#32
  let c0_i32_99 : BitVec 32 := 0#32
  ![0, v67.toNat, 0, 0]

def k2_chk10 (v67 : BitVec 32) : Prop :=
  (∀ a, (k2_off20 v67) a + S1x1x224x224.size a ≤ S4x384x224x224.size a)
theorem k2_off20_inb : ∀ (v67 : BitVec 32) (k2_hw10 : k2_chk10 v67), ∀ a, (k2_off20 v67) a + S1x1x224x224.size a ≤ S4x384x224x224.size a := fun v67 k2_hw10 => k2_hw10

def k2_off21 : Fin 2 → Nat :=
  let c0_100 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c10_i32 : BitVec 32 := 10#32
  let v72 : BitVec 32 := Scalar.addi v1 c10_i32
  let v73 : Index := Scalar.indexCast v72
  ![0, v73.toNat]
def k2_off22 (v74 : BitVec 32) : Fin 4 → Nat :=
  let c0_i32_107 : BitVec 32 := 0#32
  let c0_i32_108 : BitVec 32 := 0#32
  let c0_i32_109 : BitVec 32 := 0#32
  ![0, v74.toNat, 0, 0]

def k2_chk11 (v74 : BitVec 32) : Prop :=
  (∀ a, (k2_off22 v74) a + S1x1x224x224.size a ≤ S4x384x224x224.size a)
theorem k2_off22_inb : ∀ (v74 : BitVec 32) (k2_hw11 : k2_chk11 v74), ∀ a, (k2_off22 v74) a + S1x1x224x224.size a ≤ S4x384x224x224.size a := fun v74 k2_hw11 => k2_hw11

def k2_off23 : Fin 2 → Nat :=
  let c0_110 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c11_i32 : BitVec 32 := 11#32
  let v79 : BitVec 32 := Scalar.addi v1 c11_i32
  let v80 : Index := Scalar.indexCast v79
  ![0, v80.toNat]
def k2_off24 (v81 : BitVec 32) : Fin 4 → Nat :=
  let c0_i32_117 : BitVec 32 := 0#32
  let c0_i32_118 : BitVec 32 := 0#32
  let c0_i32_119 : BitVec 32 := 0#32
  ![0, v81.toNat, 0, 0]

def k2_chk12 (v81 : BitVec 32) : Prop :=
  (∀ a, (k2_off24 v81) a + S1x1x224x224.size a ≤ S4x384x224x224.size a)
theorem k2_off24_inb : ∀ (v81 : BitVec 32) (k2_hw12 : k2_chk12 v81), ∀ a, (k2_off24 v81) a + S1x1x224x224.size a ≤ S4x384x224x224.size a := fun v81 k2_hw12 => k2_hw12

def k2_off25 : Fin 2 → Nat :=
  let c0_121 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c12_i32_120 : BitVec 32 := 12#32
  let v86 : BitVec 32 := Scalar.addi v1 c12_i32_120
  let v87 : Index := Scalar.indexCast v86
  ![0, v87.toNat]
def k2_off26 (v88 : BitVec 32) : Fin 4 → Nat :=
  let c0_i32_128 : BitVec 32 := 0#32
  let c0_i32_129 : BitVec 32 := 0#32
  let c0_i32_130 : BitVec 32 := 0#32
  ![0, v88.toNat, 0, 0]

def k2_chk13 (v88 : BitVec 32) : Prop :=
  (∀ a, (k2_off26 v88) a + S1x1x224x224.size a ≤ S4x384x224x224.size a)
theorem k2_off26_inb : ∀ (v88 : BitVec 32) (k2_hw13 : k2_chk13 v88), ∀ a, (k2_off26 v88) a + S1x1x224x224.size a ≤ S4x384x224x224.size a := fun v88 k2_hw13 => k2_hw13

def k2_off27 : Fin 2 → Nat :=
  let c0_131 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c13_i32 : BitVec 32 := 13#32
  let v93 : BitVec 32 := Scalar.addi v1 c13_i32
  let v94 : Index := Scalar.indexCast v93
  ![0, v94.toNat]
def k2_off28 (v95 : BitVec 32) : Fin 4 → Nat :=
  let c0_i32_138 : BitVec 32 := 0#32
  let c0_i32_139 : BitVec 32 := 0#32
  let c0_i32_140 : BitVec 32 := 0#32
  ![0, v95.toNat, 0, 0]

def k2_chk14 (v95 : BitVec 32) : Prop :=
  (∀ a, (k2_off28 v95) a + S1x1x224x224.size a ≤ S4x384x224x224.size a)
theorem k2_off28_inb : ∀ (v95 : BitVec 32) (k2_hw14 : k2_chk14 v95), ∀ a, (k2_off28 v95) a + S1x1x224x224.size a ≤ S4x384x224x224.size a := fun v95 k2_hw14 => k2_hw14

def k2_off29 : Fin 2 → Nat :=
  let c0_141 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c14_i32 : BitVec 32 := 14#32
  let v100 : BitVec 32 := Scalar.addi v1 c14_i32
  let v101 : Index := Scalar.indexCast v100
  ![0, v101.toNat]
def k2_off30 (v102 : BitVec 32) : Fin 4 → Nat :=
  let c0_i32_148 : BitVec 32 := 0#32
  let c0_i32_149 : BitVec 32 := 0#32
  let c0_i32_150 : BitVec 32 := 0#32
  ![0, v102.toNat, 0, 0]

def k2_chk15 (v102 : BitVec 32) : Prop :=
  (∀ a, (k2_off30 v102) a + S1x1x224x224.size a ≤ S4x384x224x224.size a)
theorem k2_off30_inb : ∀ (v102 : BitVec 32) (k2_hw15 : k2_chk15 v102), ∀ a, (k2_off30 v102) a + S1x1x224x224.size a ≤ S4x384x224x224.size a := fun v102 k2_hw15 => k2_hw15

def k2_off31 : Fin 2 → Nat :=
  let c0_151 : Index := 0#32
  let c0_i32 : BitVec 32 := 0#32
  let c12_i32 : BitVec 32 := 12#32
  let v0 : BitVec 32 := Scalar.remsi c0_i32 c12_i32
  let c16_i32 : BitVec 32 := 16#32
  let v1 : BitVec 32 := Scalar.muli v0 c16_i32
  let c15_i32 : BitVec 32 := 15#32
  let v107 : BitVec 32 := Scalar.addi v1 c15_i32
  let v108 : Index := Scalar.indexCast v107
  ![0, v108.toNat]
def k2_off32 (v109 : BitVec 32) : Fin 4 → Nat :=
  let c0_i32_158 : BitVec 32 := 0#32
  let c0_i32_159 : BitVec 32 := 0#32
  let c0_i32_160 : BitVec 32 := 0#32
  ![0, v109.toNat, 0, 0]

def k2_chk16 (v109 : BitVec 32) : Prop :=
  (∀ a, (k2_off32 v109) a + S1x1x224x224.size a ≤ S4x384x224x224.size a)
theorem k2_off32_inb : ∀ (v109 : BitVec 32) (k2_hw16 : k2_chk16 v109), ∀ a, (k2_off32 v109) a + S1x1x224x224.size a ≤ S4x384x224x224.size a := fun v109 k2_hw16 => k2_hw16

@[reducible] def k2_t1_loop : Scf.Loop 32 :=
  let c1_i32_161 : BitVec 32 := 1#32
  let c48_i32 : BitVec 32 := 48#32
  let v114 : BitVec 32 := Scalar.addi c1_i32_161 c48_i32
  let c1_i32_162 : BitVec 32 := 1#32
  ⟨c1_i32_161, v114, c1_i32_162⟩
def k2_cond1 (k2_t1 : Fin k2_t1_loop.trips) : BitVec 1 :=
  let c1_i32_161 : BitVec 32 := 1#32
  let c1_i32_162 : BitVec 32 := 1#32
  let arg7 : BitVec 32 := Scf.iv c1_i32_161 c1_i32_162 k2_t1
  let c3_i32_188 : BitVec 32 := 3#32
  let v129 : BitVec 1 := Scalar.cmpi .sge arg7 c3_i32_188
  let v130 : BitVec 32 := Scalar.extui v129
  let c0_i32_189 : BitVec 32 := 0#32
  let v131 : BitVec 1 := Scalar.cmpi .ne v130 c0_i32_189
  v131

def k2_off33 (k2_t1 : Fin k2_t1_loop.trips) : Fin 1 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  ![v123.toNat]
def k2_off34 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c0_i32_355 : BitVec 32 := 0#32
  let c0_i32_356 : BitVec 32 := 0#32
  let c0_i32_357 : BitVec 32 := 0#32
  ![v123.toNat, 0, 0, 0]
def k2_cond2 (k2_t1 : Fin k2_t1_loop.trips) : BitVec 1 :=
  let c1_i32_161 : BitVec 32 := 1#32
  let c1_i32_162 : BitVec 32 := 1#32
  let arg7 : BitVec 32 := Scf.iv c1_i32_161 c1_i32_162 k2_t1
  let c48_i32_190 : BitVec 32 := 48#32
  let v132 : BitVec 1 := Scalar.cmpi .slt arg7 c48_i32_190
  let v133 : BitVec 32 := Scalar.extui v132
  let c0_i32_191 : BitVec 32 := 0#32
  let v134 : BitVec 1 := Scalar.cmpi .ne v133 c0_i32_191
  v134

def k2_off35 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v243 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c0_i32_360 : BitVec 32 := 0#32
  let v242 : BitVec 32 := Scalar.addi v241 c0_i32_360
  let v244 : Index := Scalar.indexCast v242
  ![v243.toNat, v244.toNat]
def k2_off36 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c0_i32_361 : BitVec 32 := 0#32
  ![v126.toNat, 0]
def k2_off37 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c0_i32_362 : BitVec 32 := 0#32
  let c0_i32_363 : BitVec 32 := 0#32
  let c0_i32_364 : BitVec 32 := 0#32
  ![v123.toNat, 0, 0, 0]
def k2_off38 (k2_t1 : Fin k2_t1_loop.trips) (v245 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_365 : BitVec 32 := 0#32
  let c0_i32_366 : BitVec 32 := 0#32
  ![v239.toNat, v245.toNat, 0, 0]

def k2_chk17 (k2_t1 : Fin k2_t1_loop.trips) (v245 : BitVec 32) : Prop :=
  (∀ (k2_h2 : k2_cond2 k2_t1 = 1#1), ∀ a, (k2_off38 k2_t1 v245) a + S1x1x224x224.size a ≤ S4x384x224x224.size a)
theorem k2_off38_inb : ∀ (k2_t1 : Fin k2_t1_loop.trips) (v245 : BitVec 32) (k2_hw17 : k2_chk17 k2_t1 v245), ∀ (k2_h2 : k2_cond2 k2_t1 = 1#1), ∀ a, (k2_off38 k2_t1 v245) a + S1x1x224x224.size a ≤ S4x384x224x224.size a := fun k2_t1 v245 k2_hw17 k2_h2 => k2_hw17 k2_h2

def k2_off39 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v251 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c1_i32_367 : BitVec 32 := 1#32
  let v250 : BitVec 32 := Scalar.addi v241 c1_i32_367
  let v252 : Index := Scalar.indexCast v250
  ![v251.toNat, v252.toNat]
def k2_off40 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c1_i32_368 : BitVec 32 := 1#32
  ![v126.toNat, 1]
def k2_off41 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c1_i32_369 : BitVec 32 := 1#32
  let c0_i32_370 : BitVec 32 := 0#32
  let c0_i32_371 : BitVec 32 := 0#32
  ![v123.toNat, 1, 0, 0]
def k2_off42 (k2_t1 : Fin k2_t1_loop.trips) (v253 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_372 : BitVec 32 := 0#32
  let c0_i32_373 : BitVec 32 := 0#32
  ![v239.toNat, v253.toNat, 0, 0]

def k2_chk18 (k2_t1 : Fin k2_t1_loop.trips) (v253 : BitVec 32) : Prop :=
  (∀ (k2_h2 : k2_cond2 k2_t1 = 1#1), ∀ a, (k2_off42 k2_t1 v253) a + S1x1x224x224.size a ≤ S4x384x224x224.size a)
theorem k2_off42_inb : ∀ (k2_t1 : Fin k2_t1_loop.trips) (v253 : BitVec 32) (k2_hw18 : k2_chk18 k2_t1 v253), ∀ (k2_h2 : k2_cond2 k2_t1 = 1#1), ∀ a, (k2_off42 k2_t1 v253) a + S1x1x224x224.size a ≤ S4x384x224x224.size a := fun k2_t1 v253 k2_hw18 k2_h2 => k2_hw18 k2_h2

def k2_off43 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v259 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c2_i32_374 : BitVec 32 := 2#32
  let v258 : BitVec 32 := Scalar.addi v241 c2_i32_374
  let v260 : Index := Scalar.indexCast v258
  ![v259.toNat, v260.toNat]
def k2_off44 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c2_i32_375 : BitVec 32 := 2#32
  ![v126.toNat, 2]
def k2_off45 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c2_i32_376 : BitVec 32 := 2#32
  let c0_i32_377 : BitVec 32 := 0#32
  let c0_i32_378 : BitVec 32 := 0#32
  ![v123.toNat, 2, 0, 0]
def k2_off46 (k2_t1 : Fin k2_t1_loop.trips) (v261 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_379 : BitVec 32 := 0#32
  let c0_i32_380 : BitVec 32 := 0#32
  ![v239.toNat, v261.toNat, 0, 0]

def k2_chk19 (k2_t1 : Fin k2_t1_loop.trips) (v261 : BitVec 32) : Prop :=
  (∀ (k2_h2 : k2_cond2 k2_t1 = 1#1), ∀ a, (k2_off46 k2_t1 v261) a + S1x1x224x224.size a ≤ S4x384x224x224.size a)
theorem k2_off46_inb : ∀ (k2_t1 : Fin k2_t1_loop.trips) (v261 : BitVec 32) (k2_hw19 : k2_chk19 k2_t1 v261), ∀ (k2_h2 : k2_cond2 k2_t1 = 1#1), ∀ a, (k2_off46 k2_t1 v261) a + S1x1x224x224.size a ≤ S4x384x224x224.size a := fun k2_t1 v261 k2_hw19 k2_h2 => k2_hw19 k2_h2

def k2_off47 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v267 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c3_i32_381 : BitVec 32 := 3#32
  let v266 : BitVec 32 := Scalar.addi v241 c3_i32_381
  let v268 : Index := Scalar.indexCast v266
  ![v267.toNat, v268.toNat]
def k2_off48 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c3_i32_382 : BitVec 32 := 3#32
  ![v126.toNat, 3]
def k2_off49 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c3_i32_383 : BitVec 32 := 3#32
  let c0_i32_384 : BitVec 32 := 0#32
  let c0_i32_385 : BitVec 32 := 0#32
  ![v123.toNat, 3, 0, 0]
def k2_off50 (k2_t1 : Fin k2_t1_loop.trips) (v269 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_386 : BitVec 32 := 0#32
  let c0_i32_387 : BitVec 32 := 0#32
  ![v239.toNat, v269.toNat, 0, 0]

def k2_chk20 (k2_t1 : Fin k2_t1_loop.trips) (v269 : BitVec 32) : Prop :=
  (∀ (k2_h2 : k2_cond2 k2_t1 = 1#1), ∀ a, (k2_off50 k2_t1 v269) a + S1x1x224x224.size a ≤ S4x384x224x224.size a)
theorem k2_off50_inb : ∀ (k2_t1 : Fin k2_t1_loop.trips) (v269 : BitVec 32) (k2_hw20 : k2_chk20 k2_t1 v269), ∀ (k2_h2 : k2_cond2 k2_t1 = 1#1), ∀ a, (k2_off50 k2_t1 v269) a + S1x1x224x224.size a ≤ S4x384x224x224.size a := fun k2_t1 v269 k2_hw20 k2_h2 => k2_hw20 k2_h2

def k2_off51 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v275 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c4_i32_388 : BitVec 32 := 4#32
  let v274 : BitVec 32 := Scalar.addi v241 c4_i32_388
  let v276 : Index := Scalar.indexCast v274
  ![v275.toNat, v276.toNat]
def k2_off52 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c4_i32_389 : BitVec 32 := 4#32
  ![v126.toNat, 4]
def k2_off53 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c4_i32_390 : BitVec 32 := 4#32
  let c0_i32_391 : BitVec 32 := 0#32
  let c0_i32_392 : BitVec 32 := 0#32
  ![v123.toNat, 4, 0, 0]
def k2_off54 (k2_t1 : Fin k2_t1_loop.trips) (v277 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_393 : BitVec 32 := 0#32
  let c0_i32_394 : BitVec 32 := 0#32
  ![v239.toNat, v277.toNat, 0, 0]

def k2_chk21 (k2_t1 : Fin k2_t1_loop.trips) (v277 : BitVec 32) : Prop :=
  (∀ (k2_h2 : k2_cond2 k2_t1 = 1#1), ∀ a, (k2_off54 k2_t1 v277) a + S1x1x224x224.size a ≤ S4x384x224x224.size a)
theorem k2_off54_inb : ∀ (k2_t1 : Fin k2_t1_loop.trips) (v277 : BitVec 32) (k2_hw21 : k2_chk21 k2_t1 v277), ∀ (k2_h2 : k2_cond2 k2_t1 = 1#1), ∀ a, (k2_off54 k2_t1 v277) a + S1x1x224x224.size a ≤ S4x384x224x224.size a := fun k2_t1 v277 k2_hw21 k2_h2 => k2_hw21 k2_h2

def k2_off55 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v283 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c5_i32_395 : BitVec 32 := 5#32
  let v282 : BitVec 32 := Scalar.addi v241 c5_i32_395
  let v284 : Index := Scalar.indexCast v282
  ![v283.toNat, v284.toNat]
def k2_off56 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c5_i32_396 : BitVec 32 := 5#32
  ![v126.toNat, 5]
def k2_off57 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c5_i32_397 : BitVec 32 := 5#32
  let c0_i32_398 : BitVec 32 := 0#32
  let c0_i32_399 : BitVec 32 := 0#32
  ![v123.toNat, 5, 0, 0]
def k2_off58 (k2_t1 : Fin k2_t1_loop.trips) (v285 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_400 : BitVec 32 := 0#32
  let c0_i32_401 : BitVec 32 := 0#32
  ![v239.toNat, v285.toNat, 0, 0]

def k2_chk22 (k2_t1 : Fin k2_t1_loop.trips) (v285 : BitVec 32) : Prop :=
  (∀ (k2_h2 : k2_cond2 k2_t1 = 1#1), ∀ a, (k2_off58 k2_t1 v285) a + S1x1x224x224.size a ≤ S4x384x224x224.size a)
theorem k2_off58_inb : ∀ (k2_t1 : Fin k2_t1_loop.trips) (v285 : BitVec 32) (k2_hw22 : k2_chk22 k2_t1 v285), ∀ (k2_h2 : k2_cond2 k2_t1 = 1#1), ∀ a, (k2_off58 k2_t1 v285) a + S1x1x224x224.size a ≤ S4x384x224x224.size a := fun k2_t1 v285 k2_hw22 k2_h2 => k2_hw22 k2_h2

def k2_off59 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v291 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c6_i32_402 : BitVec 32 := 6#32
  let v290 : BitVec 32 := Scalar.addi v241 c6_i32_402
  let v292 : Index := Scalar.indexCast v290
  ![v291.toNat, v292.toNat]
def k2_off60 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c6_i32_403 : BitVec 32 := 6#32
  ![v126.toNat, 6]
def k2_off61 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c6_i32_404 : BitVec 32 := 6#32
  let c0_i32_405 : BitVec 32 := 0#32
  let c0_i32_406 : BitVec 32 := 0#32
  ![v123.toNat, 6, 0, 0]
def k2_off62 (k2_t1 : Fin k2_t1_loop.trips) (v293 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_407 : BitVec 32 := 0#32
  let c0_i32_408 : BitVec 32 := 0#32
  ![v239.toNat, v293.toNat, 0, 0]

def k2_chk23 (k2_t1 : Fin k2_t1_loop.trips) (v293 : BitVec 32) : Prop :=
  (∀ (k2_h2 : k2_cond2 k2_t1 = 1#1), ∀ a, (k2_off62 k2_t1 v293) a + S1x1x224x224.size a ≤ S4x384x224x224.size a)
theorem k2_off62_inb : ∀ (k2_t1 : Fin k2_t1_loop.trips) (v293 : BitVec 32) (k2_hw23 : k2_chk23 k2_t1 v293), ∀ (k2_h2 : k2_cond2 k2_t1 = 1#1), ∀ a, (k2_off62 k2_t1 v293) a + S1x1x224x224.size a ≤ S4x384x224x224.size a := fun k2_t1 v293 k2_hw23 k2_h2 => k2_hw23 k2_h2

def k2_off63 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v299 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c7_i32_409 : BitVec 32 := 7#32
  let v298 : BitVec 32 := Scalar.addi v241 c7_i32_409
  let v300 : Index := Scalar.indexCast v298
  ![v299.toNat, v300.toNat]
def k2_off64 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c7_i32_410 : BitVec 32 := 7#32
  ![v126.toNat, 7]
def k2_off65 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c7_i32_411 : BitVec 32 := 7#32
  let c0_i32_412 : BitVec 32 := 0#32
  let c0_i32_413 : BitVec 32 := 0#32
  ![v123.toNat, 7, 0, 0]
def k2_off66 (k2_t1 : Fin k2_t1_loop.trips) (v301 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_414 : BitVec 32 := 0#32
  let c0_i32_415 : BitVec 32 := 0#32
  ![v239.toNat, v301.toNat, 0, 0]

def k2_chk24 (k2_t1 : Fin k2_t1_loop.trips) (v301 : BitVec 32) : Prop :=
  (∀ (k2_h2 : k2_cond2 k2_t1 = 1#1), ∀ a, (k2_off66 k2_t1 v301) a + S1x1x224x224.size a ≤ S4x384x224x224.size a)
theorem k2_off66_inb : ∀ (k2_t1 : Fin k2_t1_loop.trips) (v301 : BitVec 32) (k2_hw24 : k2_chk24 k2_t1 v301), ∀ (k2_h2 : k2_cond2 k2_t1 = 1#1), ∀ a, (k2_off66 k2_t1 v301) a + S1x1x224x224.size a ≤ S4x384x224x224.size a := fun k2_t1 v301 k2_hw24 k2_h2 => k2_hw24 k2_h2

def k2_off67 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v307 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c8_i32_416 : BitVec 32 := 8#32
  let v306 : BitVec 32 := Scalar.addi v241 c8_i32_416
  let v308 : Index := Scalar.indexCast v306
  ![v307.toNat, v308.toNat]
def k2_off68 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c8_i32_417 : BitVec 32 := 8#32
  ![v126.toNat, 8]
def k2_off69 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c8_i32_418 : BitVec 32 := 8#32
  let c0_i32_419 : BitVec 32 := 0#32
  let c0_i32_420 : BitVec 32 := 0#32
  ![v123.toNat, 8, 0, 0]
def k2_off70 (k2_t1 : Fin k2_t1_loop.trips) (v309 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_421 : BitVec 32 := 0#32
  let c0_i32_422 : BitVec 32 := 0#32
  ![v239.toNat, v309.toNat, 0, 0]

def k2_chk25 (k2_t1 : Fin k2_t1_loop.trips) (v309 : BitVec 32) : Prop :=
  (∀ (k2_h2 : k2_cond2 k2_t1 = 1#1), ∀ a, (k2_off70 k2_t1 v309) a + S1x1x224x224.size a ≤ S4x384x224x224.size a)
theorem k2_off70_inb : ∀ (k2_t1 : Fin k2_t1_loop.trips) (v309 : BitVec 32) (k2_hw25 : k2_chk25 k2_t1 v309), ∀ (k2_h2 : k2_cond2 k2_t1 = 1#1), ∀ a, (k2_off70 k2_t1 v309) a + S1x1x224x224.size a ≤ S4x384x224x224.size a := fun k2_t1 v309 k2_hw25 k2_h2 => k2_hw25 k2_h2

def k2_off71 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v315 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c9_i32_423 : BitVec 32 := 9#32
  let v314 : BitVec 32 := Scalar.addi v241 c9_i32_423
  let v316 : Index := Scalar.indexCast v314
  ![v315.toNat, v316.toNat]
def k2_off72 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c9_i32_424 : BitVec 32 := 9#32
  ![v126.toNat, 9]
def k2_off73 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c9_i32_425 : BitVec 32 := 9#32
  let c0_i32_426 : BitVec 32 := 0#32
  let c0_i32_427 : BitVec 32 := 0#32
  ![v123.toNat, 9, 0, 0]
def k2_off74 (k2_t1 : Fin k2_t1_loop.trips) (v317 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_428 : BitVec 32 := 0#32
  let c0_i32_429 : BitVec 32 := 0#32
  ![v239.toNat, v317.toNat, 0, 0]

def k2_chk26 (k2_t1 : Fin k2_t1_loop.trips) (v317 : BitVec 32) : Prop :=
  (∀ (k2_h2 : k2_cond2 k2_t1 = 1#1), ∀ a, (k2_off74 k2_t1 v317) a + S1x1x224x224.size a ≤ S4x384x224x224.size a)
theorem k2_off74_inb : ∀ (k2_t1 : Fin k2_t1_loop.trips) (v317 : BitVec 32) (k2_hw26 : k2_chk26 k2_t1 v317), ∀ (k2_h2 : k2_cond2 k2_t1 = 1#1), ∀ a, (k2_off74 k2_t1 v317) a + S1x1x224x224.size a ≤ S4x384x224x224.size a := fun k2_t1 v317 k2_hw26 k2_h2 => k2_hw26 k2_h2

def k2_off75 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v323 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c10_i32_430 : BitVec 32 := 10#32
  let v322 : BitVec 32 := Scalar.addi v241 c10_i32_430
  let v324 : Index := Scalar.indexCast v322
  ![v323.toNat, v324.toNat]
def k2_off76 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c10_i32_431 : BitVec 32 := 10#32
  ![v126.toNat, 10]
def k2_off77 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c10_i32_432 : BitVec 32 := 10#32
  let c0_i32_433 : BitVec 32 := 0#32
  let c0_i32_434 : BitVec 32 := 0#32
  ![v123.toNat, 10, 0, 0]
def k2_off78 (k2_t1 : Fin k2_t1_loop.trips) (v325 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_435 : BitVec 32 := 0#32
  let c0_i32_436 : BitVec 32 := 0#32
  ![v239.toNat, v325.toNat, 0, 0]

def k2_chk27 (k2_t1 : Fin k2_t1_loop.trips) (v325 : BitVec 32) : Prop :=
  (∀ (k2_h2 : k2_cond2 k2_t1 = 1#1), ∀ a, (k2_off78 k2_t1 v325) a + S1x1x224x224.size a ≤ S4x384x224x224.size a)
theorem k2_off78_inb : ∀ (k2_t1 : Fin k2_t1_loop.trips) (v325 : BitVec 32) (k2_hw27 : k2_chk27 k2_t1 v325), ∀ (k2_h2 : k2_cond2 k2_t1 = 1#1), ∀ a, (k2_off78 k2_t1 v325) a + S1x1x224x224.size a ≤ S4x384x224x224.size a := fun k2_t1 v325 k2_hw27 k2_h2 => k2_hw27 k2_h2

def k2_off79 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v331 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c11_i32_437 : BitVec 32 := 11#32
  let v330 : BitVec 32 := Scalar.addi v241 c11_i32_437
  let v332 : Index := Scalar.indexCast v330
  ![v331.toNat, v332.toNat]
def k2_off80 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c11_i32_438 : BitVec 32 := 11#32
  ![v126.toNat, 11]
def k2_off81 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c11_i32_439 : BitVec 32 := 11#32
  let c0_i32_440 : BitVec 32 := 0#32
  let c0_i32_441 : BitVec 32 := 0#32
  ![v123.toNat, 11, 0, 0]
def k2_off82 (k2_t1 : Fin k2_t1_loop.trips) (v333 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_442 : BitVec 32 := 0#32
  let c0_i32_443 : BitVec 32 := 0#32
  ![v239.toNat, v333.toNat, 0, 0]

def k2_chk28 (k2_t1 : Fin k2_t1_loop.trips) (v333 : BitVec 32) : Prop :=
  (∀ (k2_h2 : k2_cond2 k2_t1 = 1#1), ∀ a, (k2_off82 k2_t1 v333) a + S1x1x224x224.size a ≤ S4x384x224x224.size a)
theorem k2_off82_inb : ∀ (k2_t1 : Fin k2_t1_loop.trips) (v333 : BitVec 32) (k2_hw28 : k2_chk28 k2_t1 v333), ∀ (k2_h2 : k2_cond2 k2_t1 = 1#1), ∀ a, (k2_off82 k2_t1 v333) a + S1x1x224x224.size a ≤ S4x384x224x224.size a := fun k2_t1 v333 k2_hw28 k2_h2 => k2_hw28 k2_h2

def k2_off83 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v339 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c12_i32_444 : BitVec 32 := 12#32
  let v338 : BitVec 32 := Scalar.addi v241 c12_i32_444
  let v340 : Index := Scalar.indexCast v338
  ![v339.toNat, v340.toNat]
def k2_off84 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c12_i32_445 : BitVec 32 := 12#32
  ![v126.toNat, 12]
def k2_off85 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c12_i32_446 : BitVec 32 := 12#32
  let c0_i32_447 : BitVec 32 := 0#32
  let c0_i32_448 : BitVec 32 := 0#32
  ![v123.toNat, 12, 0, 0]
def k2_off86 (k2_t1 : Fin k2_t1_loop.trips) (v341 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_449 : BitVec 32 := 0#32
  let c0_i32_450 : BitVec 32 := 0#32
  ![v239.toNat, v341.toNat, 0, 0]

def k2_chk29 (k2_t1 : Fin k2_t1_loop.trips) (v341 : BitVec 32) : Prop :=
  (∀ (k2_h2 : k2_cond2 k2_t1 = 1#1), ∀ a, (k2_off86 k2_t1 v341) a + S1x1x224x224.size a ≤ S4x384x224x224.size a)
theorem k2_off86_inb : ∀ (k2_t1 : Fin k2_t1_loop.trips) (v341 : BitVec 32) (k2_hw29 : k2_chk29 k2_t1 v341), ∀ (k2_h2 : k2_cond2 k2_t1 = 1#1), ∀ a, (k2_off86 k2_t1 v341) a + S1x1x224x224.size a ≤ S4x384x224x224.size a := fun k2_t1 v341 k2_hw29 k2_h2 => k2_hw29 k2_h2

def k2_off87 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v347 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c13_i32_451 : BitVec 32 := 13#32
  let v346 : BitVec 32 := Scalar.addi v241 c13_i32_451
  let v348 : Index := Scalar.indexCast v346
  ![v347.toNat, v348.toNat]
def k2_off88 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c13_i32_452 : BitVec 32 := 13#32
  ![v126.toNat, 13]
def k2_off89 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c13_i32_453 : BitVec 32 := 13#32
  let c0_i32_454 : BitVec 32 := 0#32
  let c0_i32_455 : BitVec 32 := 0#32
  ![v123.toNat, 13, 0, 0]
def k2_off90 (k2_t1 : Fin k2_t1_loop.trips) (v349 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_456 : BitVec 32 := 0#32
  let c0_i32_457 : BitVec 32 := 0#32
  ![v239.toNat, v349.toNat, 0, 0]

def k2_chk30 (k2_t1 : Fin k2_t1_loop.trips) (v349 : BitVec 32) : Prop :=
  (∀ (k2_h2 : k2_cond2 k2_t1 = 1#1), ∀ a, (k2_off90 k2_t1 v349) a + S1x1x224x224.size a ≤ S4x384x224x224.size a)
theorem k2_off90_inb : ∀ (k2_t1 : Fin k2_t1_loop.trips) (v349 : BitVec 32) (k2_hw30 : k2_chk30 k2_t1 v349), ∀ (k2_h2 : k2_cond2 k2_t1 = 1#1), ∀ a, (k2_off90 k2_t1 v349) a + S1x1x224x224.size a ≤ S4x384x224x224.size a := fun k2_t1 v349 k2_hw30 k2_h2 => k2_hw30 k2_h2

def k2_off91 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v355 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c14_i32_458 : BitVec 32 := 14#32
  let v354 : BitVec 32 := Scalar.addi v241 c14_i32_458
  let v356 : Index := Scalar.indexCast v354
  ![v355.toNat, v356.toNat]
def k2_off92 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c14_i32_459 : BitVec 32 := 14#32
  ![v126.toNat, 14]
def k2_off93 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c14_i32_460 : BitVec 32 := 14#32
  let c0_i32_461 : BitVec 32 := 0#32
  let c0_i32_462 : BitVec 32 := 0#32
  ![v123.toNat, 14, 0, 0]
def k2_off94 (k2_t1 : Fin k2_t1_loop.trips) (v357 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_463 : BitVec 32 := 0#32
  let c0_i32_464 : BitVec 32 := 0#32
  ![v239.toNat, v357.toNat, 0, 0]

def k2_chk31 (k2_t1 : Fin k2_t1_loop.trips) (v357 : BitVec 32) : Prop :=
  (∀ (k2_h2 : k2_cond2 k2_t1 = 1#1), ∀ a, (k2_off94 k2_t1 v357) a + S1x1x224x224.size a ≤ S4x384x224x224.size a)
theorem k2_off94_inb : ∀ (k2_t1 : Fin k2_t1_loop.trips) (v357 : BitVec 32) (k2_hw31 : k2_chk31 k2_t1 v357), ∀ (k2_h2 : k2_cond2 k2_t1 = 1#1), ∀ a, (k2_off94 k2_t1 v357) a + S1x1x224x224.size a ≤ S4x384x224x224.size a := fun k2_t1 v357 k2_hw31 k2_h2 => k2_hw31 k2_h2

def k2_off95 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let v363 : Index := Scalar.indexCast v239
  let c12_i32_358 : BitVec 32 := 12#32
  let v240 : BitVec 32 := Scalar.remsi arg7 c12_i32_358
  let c16_i32_359 : BitVec 32 := 16#32
  let v241 : BitVec 32 := Scalar.muli v240 c16_i32_359
  let c15_i32_465 : BitVec 32 := 15#32
  let v362 : BitVec 32 := Scalar.addi v241 c15_i32_465
  let v364 : Index := Scalar.indexCast v362
  ![v363.toNat, v364.toNat]
def k2_off96 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c2_i32_185 : BitVec 32 := 2#32
  let v126 : BitVec 32 := Scalar.remsi arg7 c2_i32_185
  let c15_i32_466 : BitVec 32 := 15#32
  ![v126.toNat, 15]
def k2_off97 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c3_i32_182 : BitVec 32 := 3#32
  let v123 : BitVec 32 := Scalar.remsi arg7 c3_i32_182
  let c15_i32_467 : BitVec 32 := 15#32
  let c0_i32_468 : BitVec 32 := 0#32
  let c0_i32_469 : BitVec 32 := 0#32
  ![v123.toNat, 15, 0, 0]
def k2_off98 (k2_t1 : Fin k2_t1_loop.trips) (v365 : BitVec 32) : Fin 4 → Nat :=
  let c1_i32_161 : BitVec 32 := 1#32
  let c1_i32_162 : BitVec 32 := 1#32
  let arg7 : BitVec 32 := Scf.iv c1_i32_161 c1_i32_162 k2_t1
  let c0_i32_352 : BitVec 32 := 0#32
  let v224 : BitVec 1 := Scalar.cmpi .sgt arg7 c0_i32_352
  let v225 : BitVec 32 := Scalar.extui v224
  let c0_i32_353 : BitVec 32 := 0#32
  let v226 : BitVec 1 := Scalar.cmpi .slt arg7 c0_i32_353
  let v227 : BitVec 32 := Scalar.extui v226
  let v228 : BitVec 32 := Scalar.subi v225 v227
  let c12_i32_351 : BitVec 32 := 12#32
  let c0_i32_354 : BitVec 32 := 0#32
  let v229 : BitVec 1 := Scalar.cmpi .sgt c12_i32_351 c0_i32_354
  let v230 : BitVec 32 := Scalar.extui v229
  let c0_i32_355 : BitVec 32 := 0#32
  let v231 : BitVec 1 := Scalar.cmpi .slt c12_i32_351 c0_i32_355
  let v232 : BitVec 32 := Scalar.extui v231
  let v233 : BitVec 32 := Scalar.subi v230 v232
  let v234 : BitVec 1 := Scalar.cmpi .ne v228 v233
  let v235 : BitVec 32 := Scalar.remsi arg7 c12_i32_351
  let c0_i32_356 : BitVec 32 := 0#32
  let v236 : BitVec 1 := Scalar.cmpi .ne v235 c0_i32_356
  let v237 : BitVec 1 := Scalar.andi v234 v236
  let v223 : BitVec 32 := Scalar.divsi arg7 c12_i32_351
  let c1_i32_357 : BitVec 32 := 1#32
  let v238 : BitVec 32 := Scalar.subi v223 c1_i32_357
  let v239 : BitVec 32 := Scalar.select v237 v238 v223
  let c0_i32_470 : BitVec 32 := 0#32
  let c0_i32_471 : BitVec 32 := 0#32
  ![v239.toNat, v365.toNat, 0, 0]

def k2_chk32 (k2_t1 : Fin k2_t1_loop.trips) (v365 : BitVec 32) : Prop :=
  (∀ (k2_h2 : k2_cond2 k2_t1 = 1#1), ∀ a, (k2_off98 k2_t1 v365) a + S1x1x224x224.size a ≤ S4x384x224x224.size a)
theorem k2_off98_inb : ∀ (k2_t1 : Fin k2_t1_loop.trips) (v365 : BitVec 32) (k2_hw32 : k2_chk32 k2_t1 v365), ∀ (k2_h2 : k2_cond2 k2_t1 = 1#1), ∀ a, (k2_off98 k2_t1 v365) a + S1x1x224x224.size a ≤ S4x384x224x224.size a := fun k2_t1 v365 k2_hw32 k2_h2 => k2_hw32 k2_h2

def k2_off99 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c0_i32_192 : BitVec 32 := 0#32
  ![v128.toNat, 0]
def k2_off100 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c1_i32_201 : BitVec 32 := 1#32
  ![v128.toNat, 1]
def k2_off101 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c2_i32_210 : BitVec 32 := 2#32
  ![v128.toNat, 2]
def k2_off102 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c3_i32_219 : BitVec 32 := 3#32
  ![v128.toNat, 3]
def k2_off103 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c4_i32_228 : BitVec 32 := 4#32
  ![v128.toNat, 4]
def k2_off104 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c5_i32_237 : BitVec 32 := 5#32
  ![v128.toNat, 5]
def k2_off105 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c6_i32_246 : BitVec 32 := 6#32
  ![v128.toNat, 6]
def k2_off106 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c7_i32_255 : BitVec 32 := 7#32
  ![v128.toNat, 7]
def k2_off107 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c8_i32_264 : BitVec 32 := 8#32
  ![v128.toNat, 8]
def k2_off108 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c9_i32_273 : BitVec 32 := 9#32
  ![v128.toNat, 9]
def k2_off109 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c10_i32_282 : BitVec 32 := 10#32
  ![v128.toNat, 10]
def k2_off110 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c11_i32_291 : BitVec 32 := 11#32
  ![v128.toNat, 11]
def k2_off111 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c12_i32_300 : BitVec 32 := 12#32
  ![v128.toNat, 12]
def k2_off112 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c13_i32_309 : BitVec 32 := 13#32
  ![v128.toNat, 13]
def k2_off113 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c14_i32_318 : BitVec 32 := 14#32
  ![v128.toNat, 14]
def k2_off114 (k2_t1 : Fin k2_t1_loop.trips) : Fin 2 → Nat :=
  let c1_i32_161 : BitVec 32 := 1#32
  let c1_i32_162 : BitVec 32 := 1#32
  let arg7 : BitVec 32 := Scf.iv c1_i32_161 c1_i32_162 k2_t1
  let c1_i32_186 : BitVec 32 := 1#32
  let v127 : BitVec 32 := Scalar.subi arg7 c1_i32_186
  let c2_i32_187 : BitVec 32 := 2#32
  let v128 : BitVec 32 := Scalar.remsi v127 c2_i32_187
  let c15_i32_327 : BitVec 32 := 15#32
  ![v128.toNat, 15]
def k2_off115 (k2_t1 : Fin k2_t1_loop.trips) : Fin 1 → Nat :=
  let c1_i32_161 : BitVec 32 := 1#32
  let c1_i32_162 : BitVec 32 := 1#32
  let arg7 : BitVec 32 := Scf.iv c1_i32_161 c1_i32_162 k2_t1
  let c1_i32_183 : BitVec 32 := 1#32
  let v124 : BitVec 32 := Scalar.subi arg7 c1_i32_183
  let c3_i32_184 : BitVec 32 := 3#32
  let v125 : BitVec 32 := Scalar.remsi v124 c3_i32_184
  ![v125.toNat]
def k2_off116 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c1_i32_336 : BitVec 32 := 1#32
  let v199 : BitVec 32 := Scalar.subi arg7 c1_i32_336
  let c0_i32_338 : BitVec 32 := 0#32
  let v201 : BitVec 1 := Scalar.cmpi .sgt v199 c0_i32_338
  let v202 : BitVec 32 := Scalar.extui v201
  let c0_i32_339 : BitVec 32 := 0#32
  let v203 : BitVec 1 := Scalar.cmpi .slt v199 c0_i32_339
  let v204 : BitVec 32 := Scalar.extui v203
  let v205 : BitVec 32 := Scalar.subi v202 v204
  let c12_i32_337 : BitVec 32 := 12#32
  let c0_i32_340 : BitVec 32 := 0#32
  let v206 : BitVec 1 := Scalar.cmpi .sgt c12_i32_337 c0_i32_340
  let v207 : BitVec 32 := Scalar.extui v206
  let c0_i32_341 : BitVec 32 := 0#32
  let v208 : BitVec 1 := Scalar.cmpi .slt c12_i32_337 c0_i32_341
  let v209 : BitVec 32 := Scalar.extui v208
  let v210 : BitVec 32 := Scalar.subi v207 v209
  let v211 : BitVec 1 := Scalar.cmpi .ne v205 v210
  let v212 : BitVec 32 := Scalar.remsi v199 c12_i32_337
  let c0_i32_342 : BitVec 32 := 0#32
  let v213 : BitVec 1 := Scalar.cmpi .ne v212 c0_i32_342
  let v214 : BitVec 1 := Scalar.andi v211 v213
  let v200 : BitVec 32 := Scalar.divsi v199 c12_i32_337
  let c1_i32_343 : BitVec 32 := 1#32
  let v215 : BitVec 32 := Scalar.subi v200 c1_i32_343
  let v216 : BitVec 32 := Scalar.select v214 v215 v200
  let c12_i32_344 : BitVec 32 := 12#32
  let v217 : BitVec 32 := Scalar.remsi v199 c12_i32_344
  let c16_i32_345 : BitVec 32 := 16#32
  let v218 : BitVec 32 := Scalar.muli v217 c16_i32_345
  let c0_i32_346 : BitVec 32 := 0#32
  let c0_i32_347 : BitVec 32 := 0#32
  ![v216.toNat, v218.toNat, 0, 0]
def k2_off117 (k2_t1 : Fin k2_t1_loop.trips) : Fin 4 → Nat :=
  let c1_i32_161 : BitVec 32 := 1#32
  let c1_i32_162 : BitVec 32 := 1#32
  let arg7 : BitVec 32 := Scf.iv c1_i32_161 c1_i32_162 k2_t1
  let c1_i32_183 : BitVec 32 := 1#32
  let v124 : BitVec 32 := Scalar.subi arg7 c1_i32_183
  let c3_i32_184 : BitVec 32 := 3#32
  let v125 : BitVec 32 := Scalar.remsi v124 c3_i32_184
  let c0_i32_348 : BitVec 32 := 0#32
  let c0_i32_349 : BitVec 32 := 0#32
  let c0_i32_350 : BitVec 32 := 0#32
  ![v125.toNat, 0, 0, 0]
-- ==== ReferenceIdeal.lean ====
abbrev S4x384x224x224 : Shape := ⟨4, ![4, 384, 224, 224]⟩
abbrev S3 : Shape := ⟨1, ![3]⟩
abbrev S_ : Shape := ⟨0, ![]⟩
abbrev S4x384 : Shape := ⟨2, ![4, 384]⟩
abbrev S4x386 : Shape := ⟨2, ![4, 386]⟩
abbrev S1 : Shape := ⟨1, ![1]⟩
abbrev S4x192 : Shape := ⟨2, ![4, 192]⟩
abbrev S4x192x1x1 : Shape := ⟨4, ![4, 192, 1, 1]⟩
abbrev S4x192x1 : Shape := ⟨3, ![4, 192, 1]⟩
abbrev S1x1x1 : Shape := ⟨3, ![1, 1, 1]⟩
abbrev S4x192x224x224 : Shape := ⟨4, ![4, 192, 224, 224]⟩

abbrev nBuf : Space → Nat
  | .hbm => 64
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S3, .f32⟩
  | .hbm, ⟨2, _⟩ => ⟨S_, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .i32⟩
  | .hbm, ⟨8, _⟩ => ⟨S_, .f32⟩
  | .hbm, ⟨9, _⟩ => ⟨S4x386, .f32⟩
  | .hbm, ⟨10, _⟩ => ⟨S1, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S1, .f32⟩
  | .hbm, ⟨16, _⟩ => ⟨S_, .f32⟩
  | .hbm, ⟨17, _⟩ => ⟨S4x384, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S1, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S4x384, .f32⟩
  | .hbm, ⟨29, _⟩ => ⟨S_, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S4x384, .i32⟩
  | .hbm, ⟨37, _⟩ => ⟨S4x384, .f32⟩
  | .hbm, ⟨38, _⟩ => ⟨S4x384, .i32⟩
  | .hbm, ⟨39, _⟩ => ⟨S4x192, .i32⟩
  | .hbm, ⟨40, _⟩ => ⟨S4x192x1x1, .i32⟩
  | .hbm, ⟨41, _⟩ => ⟨S_, .i32⟩
  | .hbm, ⟨42, _⟩ => ⟨S4x192x1x1, .i32⟩
  | .hbm, ⟨43, _⟩ => ⟨S4x192x1x1, .i1⟩
  | .hbm, ⟨44, _⟩ => ⟨S_, .i32⟩
  | .hbm, ⟨45, _⟩ => ⟨S4x192x1x1, .i32⟩
  | .hbm, ⟨46, _⟩ => ⟨S4x192x1x1, .i32⟩
  | .hbm, ⟨47, _⟩ => ⟨S4x192x1x1, .i32⟩
  | .hbm, ⟨48, _⟩ => ⟨S4x192x1, .i32⟩
  | .hbm, ⟨49, _⟩ => ⟨S1, .i32⟩
  | .hbm, ⟨50, _⟩ => ⟨S_, .i32⟩
  | .hbm, ⟨51, _⟩ => ⟨S4x192x1, .i32⟩
  | .hbm, ⟨52, _⟩ => ⟨S4x192x1, .i1⟩
  | .hbm, ⟨53, _⟩ => ⟨S1x1x1, .i32⟩
  | .hbm, ⟨54, _⟩ => ⟨S4x192x1, .i32⟩
  | .hbm, ⟨55, _⟩ => ⟨S4x192x1, .i1⟩
  | .hbm, ⟨56, _⟩ => ⟨S4x192x1, .i1⟩
  | .hbm, ⟨57, _⟩ => ⟨S_, .i1⟩
  | .hbm, ⟨58, _⟩ => ⟨S4x192, .i1⟩
  | .hbm, ⟨59, _⟩ => ⟨S4x192x224x224, .f32⟩
  | .hbm, ⟨60, _⟩ => ⟨S4x192x224x224, .i1⟩
  | .hbm, ⟨61, _⟩ => ⟨S_, .f32⟩
  | .hbm, ⟨62, _⟩ => ⟨S4x192x224x224, .f32⟩
  | .hbm, ⟨63, _⟩ => ⟨S4x192x224x224, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Proof.PoolBody.lean ====
/-
  One block of the pooling kernel: from the staged block at `x` and the staged result at anything, the body leaves the
  block as it was and the result at the block's channel means.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Transfers
public import Idealize.ShloMosaic.Lib.Tactic
public import Idealize.ShloMosaic.Lib.VecWindow

@[expose] public section

noncomputable section

namespace Cert.Proof.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The pooling body at any staging memrefs. -/
theorem body_spec (c : Dev nD) (i : grid0.Coords)
    (M2 : Memref sig .tc .vmem S1x64x224x224 .f32) (h2 : M2.IsWhole) (M3 : Memref sig .tc .vmem S1x1x64 .f32) (h3 : M3.IsWhole)
    (x : S1x64x224x224.Idx → Elt F .f32) (d : S1x1x64.Idx → Elt F .f32) {Φ : PUnit → sProp 𝕄} :
    iprop(owns (c : Thread nD τ) M2 fullShare x ∗ owns (c : Thread nD τ) M3 fullShare d
      ∗ (iprop(owns (c : Thread nD τ) M2 fullShare x ∗ owns (c : Thread nD τ) M3 fullShare (k0_pay1 x)) -∗ Φ ⟨⟩))
    ⊢ wp frame (wpE (defs₀ (F := F)) Variants.none c none) Set.univ (cc0__lambda_ i M2 h2 M3 h3) Φ := by
  rw [cc0__lambda__eq_skeleton]
  unfold cc0__lambda__skel owns
  iintro ⟨⟨%f, %hf, H2⟩, ⟨%g, %hg, H3⟩, Hk⟩
  sl_exec
  sl_step
  iapply Hk
  isplitl [H2]
  · iexists f
    isplitr; · ipureintro; exact hf
    iexact H2
  iexists _
  isplitr; swap; · iexact H3
  ipureintro
  rw [View.read_writes_full, View.readAt_full, hf]

end Cert.Proof.Pool

end
-- ==== Proof.RankBody.lean ====
/-
  The ranking kernel's one block: from the ranks as rows and as columns, the body leaves both as they were and, in column
  `b` of the result, the places of image `b`.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Transfers
public import Idealize.ShloMosaic.Lib.Tactic
public import Idealize.ShloMosaic.Lib.VecWindow
public import Idealize.ShloMosaic.Lib.Pointwise.Index

@[expose] public section

noncomputable section

namespace Cert.Proof.Rank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the kernel stores for image `b`, from row `b` of the ranks and column `b` of their transpose. -/
def column (r : S4x384.Idx → Elt F .f32) (rt : S384x4.Idx → Elt F .f32) (b : Fin 4) : IVec S192x1 32 :=
  k1_pay2 (F := F) (fun (i : S1x384.Idx) => r (ix2 b (i 1))) (fun (i : S384x1.Idx) => rt (ix2 (i 0) b))

/-- What the kernel leaves: column `b` is `column b`. -/
def places (r : S4x384.Idx → Elt F .f32) (rt : S384x4.Idx → Elt F .f32) : S192x4.Idx → Elt F .i32 :=
  fun (j : S192x4.Idx) => column r rt (j 1) (ix2 (n0 := 192) (n1 := 1) (j 0) 0)

/-- A load of one row of the ranks. -/
theorem read_row {M0 : Memref sig .tc .vmem S4x384 .f32} {r : S4x384.Idx → Elt F .f32} {f : M0.view.ty.Contents (Elt F)}
    (hf : M0.view.read (Elt F) f = r) (b : Fin 4) (q : ℕ) (hq : q = b.val) (inb : ∀ a, ![q, 0] a + S1x384.size a ≤ S4x384.size a) :
    M0.view.readAt (Elt F) (Rect.unit (s := S4x384) ![q, 0] S1x384.size inb).toLoadRect f = fun (i : S1x384.Idx) => r (ix2 b (i 1)) := by
  subst hf hq
  funext i
  refine congrArg (M0.view.read (Elt F) f) (funext fun a => Fin.ext ?_)
  have h0 : (i 0).val < 1 := (i 0).isLt
  match a with
  | ⟨0, _⟩ => show b.val + 1 * (i 0).val = b.val; omega
  | ⟨1, _⟩ => show 0 + 1 * (i 1).val = (i 1).val; omega

/-- A load of one column of the transposed ranks. -/
theorem read_col {M1 : Memref sig .tc .vmem S384x4 .f32} {rt : S384x4.Idx → Elt F .f32} {f : M1.view.ty.Contents (Elt F)}
    (hf : M1.view.read (Elt F) f = rt) (b : Fin 4) (q : ℕ) (hq : q = b.val) (inb : ∀ a, ![0, q] a + S384x1.size a ≤ S384x4.size a) :
    M1.view.readAt (Elt F) (Rect.unit (s := S384x4) ![0, q] S384x1.size inb).toLoadRect f = fun (i : S384x1.Idx) => rt (ix2 (i 0) b) := by
  subst hf hq
  funext i
  refine congrArg (M1.view.read (Elt F) f) (funext fun a => Fin.ext ?_)
  have h0 : (i 1).val < 1 := (i 1).isLt
  match a with
  | ⟨0, _⟩ => show 0 + 1 * (i 0).val = (i 0).val; omega
  | ⟨1, _⟩ => show b.val + 1 * (i 1).val = b.val; omega

/-- The four columns' stores together: each element is the one its column's payload has in its row. -/
theorem read_columns (M2 : Memref sig .tc .vmem S192x4 .i32) (o : M2.view.ty.Contents (Elt F)) (w : Fin 4 → IVec S192x1 32)
    (i3 : ∀ a, ![0, 3] a + S192x1.size a ≤ S192x4.size a) (i2 : ∀ a, ![0, 2] a + S192x1.size a ≤ S192x4.size a)
    (i1 : ∀ a, ![0, 1] a + S192x1.size a ≤ S192x4.size a) (i0 : ∀ a, ![0, 0] a + S192x1.size a ≤ S192x4.size a) :
    M2.view.read (Elt F) (M2.view.writes (Elt F) o
      [⟨Rect.unit ![0, 3] S192x1.size i3, w 3⟩, ⟨Rect.unit ![0, 2] S192x1.size i2, w 2⟩,
        ⟨Rect.unit ![0, 1] S192x1.size i1, w 1⟩, ⟨Rect.unit ![0, 0] S192x1.size i0, w 0⟩])
      = fun (j : S192x4.Idx) => w (j 1) (ix2 (n0 := 192) (n1 := 1) (j 0) 0) := by
  funext j
  obtain ⟨p, b, rfl⟩ : ∃ (p : Fin 192) (b : Fin 4), j = ix2 p b := ⟨j 0, j 1, eq_ix2 j⟩
  have hit : ∀ (q : ℕ) (a : Fin 2), q = b.val → ((ix2 p b : S192x4.Idx) a).val = ![0, q] a + ((ix2 (n0 := 192) (n1 := 1) p 0 : S192x1.Idx) a).val := by
    intro q a hq
    match a with
    | ⟨0, _⟩ => show p.val = 0 + p.val; omega
    | ⟨1, _⟩ => show b.val = q + 0; omega
  by_cases h3 : b = 3
  · subst h3
    exact View.read_writes_cons_unit_of_mem M2.view o i3 (w 3) _ (ix2 p 3) (ix2 (n0 := 192) (n1 := 1) p 0) rfl fun a => hit 3 a rfl
  rw [View.read_writes_cons_unit_of_not_mem M2.view o i3 (w 3) _ (ix2 p b) rfl 1 (Or.inl (show b.val < 3 by have := b.isLt; have : b.val ≠ 3 := fun h => h3 (Fin.ext h); omega))]
  by_cases h2 : b = 2
  · subst h2
    exact View.read_writes_cons_unit_of_mem M2.view o i2 (w 2) _ (ix2 p 2) (ix2 (n0 := 192) (n1 := 1) p 0) rfl fun a => hit 2 a rfl
  have h32 : b.val < 2 := by
    have := b.isLt; have : b.val ≠ 3 := fun h => h3 (Fin.ext h); have : b.val ≠ 2 := fun h => h2 (Fin.ext h); omega
  rw [View.read_writes_cons_unit_of_not_mem M2.view o i2 (w 2) _ (ix2 p b) rfl 1 (Or.inl (show b.val < 2 from h32))]
  by_cases h1 : b = 1
  · subst h1
    exact View.read_writes_cons_unit_of_mem M2.view o i1 (w 1) _ (ix2 p 1) (ix2 (n0 := 192) (n1 := 1) p 0) rfl fun a => hit 1 a rfl
  have h10 : b.val < 1 := by have : b.val ≠ 1 := fun h => h1 (Fin.ext h); omega
  rw [View.read_writes_cons_unit_of_not_mem M2.view o i1 (w 1) _ (ix2 p b) rfl 1 (Or.inl (show b.val < 1 from h10))]
  obtain rfl : b = 0 := Fin.ext (by show b.val = 0; omega)
  exact View.read_writes_cons_unit_of_mem M2.view o i0 (w 0) _ (ix2 p 0) (ix2 (n0 := 192) (n1 := 1) p 0) rfl fun a => hit 0 a rfl

/-- The printed pieces of the four images' computations are one computation. -/
theorem pay_two (v : Vec F S1x384 .f32) (v' : Vec F S384x1 .f32) :
    k1_pay4 (iota .tc S192x384 32 [0] iota_S192x384_d0_w32) (iota .tc S192x384 32 [1] iota_S192x384_d1_w32) (k1_pay3 (F := F) v v')
      = k1_pay2 (F := F) v v' := rfl
theorem pay_three (v : Vec F S1x384 .f32) (v' : Vec F S384x1 .f32) :
    k1_pay5 (F := F) (iota .tc S384x384 32 [0] iota_S384x384_d0_w32) (iota .tc S384x384 32 [1] iota_S384x384_d1_w32)
      (iota .tc S192x384 32 [0] iota_S192x384_d0_w32) (iota .tc S192x384 32 [1] iota_S192x384_d1_w32) v v' = k1_pay2 (F := F) v v' := rfl
theorem pay_four (v : Vec F S1x384 .f32) (v' : Vec F S384x1 .f32) :
    k1_pay1 (iota .tc S384x384 32 [0] iota_S384x384_d0_w32) (iota .tc S384x384 32 [1] iota_S384x384_d1_w32)
      (iota .tc S192x384 32 [0] iota_S192x384_d0_w32) (iota .tc S192x384 32 [1] iota_S192x384_d1_w32)
      (k1_pay8 (F := F) v v') (k1_pay9 (F := F) v v') = k1_pay2 (F := F) v v' := rfl

/-- The ranking body at any staging memrefs. -/
theorem body_spec (c : Dev nD)
    (M0 : Memref sig .tc .vmem S4x384 .f32) (h0 : M0.IsWhole) (M1 : Memref sig .tc .vmem S384x4 .f32) (h1 : M1.IsWhole)
    (M2 : Memref sig .tc .vmem S192x4 .i32) (h2 : M2.IsWhole)
    (r : S4x384.Idx → Elt F .f32) (rt : S384x4.Idx → Elt F .f32) (d : S192x4.Idx → Elt F .i32) {Φ : PUnit → sProp 𝕄} :
    iprop(owns (c : Thread nD τ) M0 fullShare r ∗ owns (c : Thread nD τ) M1 fullShare rt ∗ owns (c : Thread nD τ) M2 fullShare d
      ∗ (iprop(owns (c : Thread nD τ) M0 fullShare r ∗ owns (c : Thread nD τ) M1 fullShare rt
            ∗ owns (c : Thread nD τ) M2 fullShare (places r rt)) -∗ Φ ⟨⟩))
    ⊢ wp frame (wpE (defs₀ (F := F)) Variants.none c none) Set.univ (cc1__lambda_ M0 h0 M1 h1 M2 h2) Φ := by
  rw [cc1__lambda__eq_skeleton]
  unfold cc1__lambda__skel owns
  rw [k1_part1_eq_skeleton, k1_part2_eq_skeleton]
  unfold k1_part1_skel k1_part2_skel
  iintro ⟨⟨%f, %hf, H0⟩, ⟨%g, %hg, H1⟩, ⟨%o, %ho, H2⟩, Hk⟩
  sl_exec
  sl_step
  iapply Hk
  isplitl [H0]
  · iexists f
    isplitr; · ipureintro; exact hf
    iexact H0
  isplitl [H1]
  · iexists g
    isplitr; · ipureintro; exact hg
    iexact H1
  iexists _
  isplitr; swap; · iexact H2
  ipureintro
  rw [read_row hf 0 0 rfl, read_row hf 1 1 rfl, read_row hf 2 2 rfl, read_row hf 3 3 rfl,
    read_col hg 0 0 rfl, read_col hg 1 1 rfl, read_col hg 2 2 rfl, read_col hg 3 3 rfl]
  exact read_columns M2 o (column r rt) inb_S192x4_S192x1_0_3 inb_S192x4_S192x1_0_2 inb_S192x4_S192x1_0_1 inb_S192x4_S192x1_0_0

end Cert.Proof.Rank

end
-- ==== Proof.GatherCells.lean ====
module

public import proofs.«01_k».proof.Proof.Gen.KernelIdeal.Skeleton
public import Idealize.ShloMosaic.Lib.Transfers
public import Idealize.ShloMosaic.Lib.Pipeline.FrameBody
public import Idealize.ShloMosaic.Lib.Ring
public import Idealize.ShloMosaic.Lib.Tactic

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The semaphore of row `i` on side `a` of the incoming copies. -/
def inSem (a i : ℕ) : DmaSem sig := ⟨7 + (16 * (a % 2) + i % 16), by show _ < 42; omega⟩

/-- The semaphore of slot `p` of the outgoing copies. -/
def outSem (p : ℕ) : DmaSem sig := ⟨39 + p % 3, by show _ < 42; omega⟩

theorem inSem_all : ∀ a : Fin 2, ∀ i : Fin 16, ∀ h : ∀ x, (![a.val, i.val] : Fin 2 → ℕ) x + S1x1.size x ≤ S2x16.size x,
    ((cc2_scratch1.slice (Rect.unit (s := S2x16) ![a.val, i.val] S1x1.size h)).squeeze S_ squeezes_S1x1_S_).sem = inSem a i := by
  decide +kernel

theorem outSem_all : ∀ p : Fin 3, ∀ h : ∀ x, (![p.val] : Fin 1 → ℕ) x + S1.size x ≤ S3.size x,
    ((cc2_scratch2.slice (Rect.unit (s := S3) ![p.val] S1.size h)).squeeze S_ squeezes_S1_S_).sem = outSem p := by
  decide +kernel

theorem sem_in {a i : ℕ} {off : Fin 2 → ℕ} (ho : off = ![a % 2, i]) (hi : i < 16) (h : ∀ x, off x + S1x1.size x ≤ S2x16.size x) :
    ((cc2_scratch1.slice (Rect.unit (s := S2x16) off S1x1.size h)).squeeze S_ squeezes_S1x1_S_).sem = inSem a i := by
  subst ho
  rw [inSem_all ⟨a % 2, Nat.mod_lt _ (by decide)⟩ ⟨i, hi⟩ h]
  simp [inSem]

theorem sem_out {p : ℕ} {off : Fin 1 → ℕ} (ho : off = ![p % 3]) (h : ∀ x, off x + S1.size x ≤ S3.size x) :
    ((cc2_scratch2.slice (Rect.unit (s := S3) off S1.size h)).squeeze S_ squeezes_S1_S_).sem = outSem p := by
  subst ho
  rw [outSem_all ⟨p % 3, Nat.mod_lt _ (by decide)⟩ h]
  simp [outSem]

/-! ## The pieces of the three buffers -/

/-- Row `i` of slot `p` of the ring. -/
def rowSet (p i : ℕ) : Finset S3x16x224x224.Idx := Finset.univ.filter fun j => (j 0).val = p ∧ (j 1).val = i
/-- Slot `p` of the ring. -/
def slotSet (p : ℕ) : Finset S3x16x224x224.Idx := Finset.univ.filter fun j => (j 0).val = p
/-- Channel `r` of image `b`. -/
def chanSet (b r : ℕ) : Finset S4x384x224x224.Idx := Finset.univ.filter fun j => (j 0).val = b ∧ (j 1).val = r
/-- The sixteen rows of the result that chunk `t` writes. -/
def outSet (t : ℕ) : Finset S4x192x224x224.Idx := Finset.univ.filter fun j => (j 0).val = t / 12 ∧ (j 1).val / 16 = t % 12

theorem set_row {p i : ℕ} {off : Fin 4 → ℕ} (ho : off = ![p, i, 0, 0]) (h : ∀ x, off x + S1x1x224x224.size x ≤ S3x16x224x224.size x) :
    (Rect.unit (s := S3x16x224x224) off S1x1x224x224.size h).set = rowSet p i := by
  subst ho
  ext j
  have h2 := (j 2).isLt; have h3 := (j 3).isLt
  simp [Rect.mem_set_unit, rowSet, Fin.forall_fin_succ] at h2 h3 ⊢
  omega

theorem set_slot {p : ℕ} {off : Fin 4 → ℕ} (ho : off = ![p, 0, 0, 0]) (h : ∀ x, off x + S1x16x224x224.size x ≤ S3x16x224x224.size x) :
    (Rect.unit (s := S3x16x224x224) off S1x16x224x224.size h).set = slotSet p := by
  subst ho
  ext j
  have h1 := (j 1).isLt; have h2 := (j 2).isLt; have h3 := (j 3).isLt
  simp [Rect.mem_set_unit, slotSet, Fin.forall_fin_succ] at h1 h2 h3 ⊢
  omega

theorem set_chan {b r : ℕ} {off : Fin 4 → ℕ} (ho : off = ![b, r, 0, 0]) (h : ∀ x, off x + S1x1x224x224.size x ≤ S4x384x224x224.size x) :
    (Rect.unit (s := S4x384x224x224) off S1x1x224x224.size h).set = chanSet b r := by
  subst ho
  ext j
  have h2 := (j 2).isLt; have h3 := (j 3).isLt
  simp [Rect.mem_set_unit, chanSet, Fin.forall_fin_succ] at h2 h3 ⊢
  omega

theorem set_out {t : ℕ} {off : Fin 4 → ℕ} (ho : off = ![t / 12, t % 12 * 16, 0, 0]) (h : ∀ x, off x + S1x16x224x224.size x ≤ S4x192x224x224.size x) :
    (Rect.unit (s := S4x192x224x224) off S1x16x224x224.size h).set = outSet t := by
  subst ho
  ext j
  have h2 := (j 2).isLt; have h3 := (j 3).isLt
  simp [Rect.mem_set_unit, outSet, Fin.forall_fin_succ] at h2 h3 ⊢
  omega

/-! ## What the pieces hold -/

variable (c : Dev nD) (T : Buf (Elt F) ((c : Thread nD τ).loc main_v28)) (X : Buf (Elt F) ((c : Thread nD τ).loc main_arg0))

/-- The table's index of word `j` of image `b`. -/
def tIdx (b j : ℕ) : S4x192.Idx := fun
  | ⟨0, _⟩ => (⟨b % 4, Nat.mod_lt _ (by decide)⟩ : Fin 4)
  | ⟨1, _⟩ => (⟨j % 192, Nat.mod_lt _ (by decide)⟩ : Fin 192)

/-- The index of element `(h, w)` of channel `r` of image `b`. -/
def xIdx (b r : ℕ) (h w : Fin 224) : S4x384x224x224.Idx := fun
  | ⟨0, _⟩ => (⟨b % 4, Nat.mod_lt _ (by decide)⟩ : Fin 4)
  | ⟨1, _⟩ => (⟨r % 384, Nat.mod_lt _ (by decide)⟩ : Fin 384)
  | ⟨2, _⟩ => h
  | ⟨3, _⟩ => w

/-- The table's word `j` for image `b`. -/
def word (b j : ℕ) : BitVec 32 := T (tIdx b j)

/-- The channel chunk `t`'s row `i` copies. -/
def chan (t i : ℕ) : ℕ := (word c T (t / 12) (t % 12 * 16 + i)).toNat

/-- What the ring holds once chunk `t` has arrived: in each row the channel the table names. -/
def chunkBuf (t : ℕ) : Buf (Elt F) ((c : Thread nD τ).loc cc2_scratch0) :=
  fun (j : S3x16x224x224.Idx) => X (xIdx (t / 12) (chan c T t (j 1).val) (j 2) (j 3))

/-- The gathered array: channel `T[b, j]` of image `b` at `(b, j)`. -/
def gathered : Buf (Elt F) ((c : Thread nD τ).loc main_v29) :=
  fun (j : S4x192x224x224.Idx) => X (xIdx (j 0).val (word c T (j 0).val (j 1).val).toNat (j 2) (j 3))

end Cert.Proof.Gather

end
-- ==== Proof.GatherRules.lean ====
module

public import proofs.«01_k».proof.Proof.GatherCells

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)

/-- The share of the source lent to the copy on semaphore `(a, i)`. -/
def tok (a i : ℕ) : PosShare TreeShare := Transfers.shareTokN qx (16 * (a % 2) + i)

/-- One channel of the source. -/
abbrev xView (o : Fin 4 → ℕ) (h : ∀ x, o x + S1x1x224x224.size x ≤ S4x384x224x224.size x) : Memref sig .tc .hbm S1x1x224x224 .f32 :=
  (Memref.whole main_arg0).slice (Rect.unit (s := S4x384x224x224) o S1x1x224x224.size h) (fun _ => rfl)
/-- One row of the ring. -/
abbrev rowView (o : Fin 4 → ℕ) (h : ∀ x, o x + S1x1x224x224.size x ≤ S3x16x224x224.size x) : Memref sig .tc .vmem S1x1x224x224 .f32 :=
  (Memref.whole cc2_scratch0).slice (Rect.unit (s := S3x16x224x224) o S1x1x224x224.size h) (fun _ => rfl)
/-- One slot of the ring. -/
abbrev slotView (o : Fin 4 → ℕ) (h : ∀ x, o x + S1x16x224x224.size x ≤ S3x16x224x224.size x) : Memref sig .tc .vmem S1x16x224x224 .f32 :=
  (Memref.whole cc2_scratch0).slice (Rect.unit (s := S3x16x224x224) o S1x16x224x224.size h) (fun _ => rfl)
/-- Sixteen rows of the result. -/
abbrev outView (o : Fin 4 → ℕ) (h : ∀ x, o x + S1x16x224x224.size x ≤ S4x192x224x224.size x) : Memref sig .tc .hbm S1x16x224x224 .f32 :=
  (Memref.whole main_v29).slice (Rect.unit (s := S4x192x224x224) o S1x16x224x224.size h) (fun _ => rfl)

/-- The credit of one incoming copy, one channel. -/
def inAmt : ℕ := (rowView ![0, 0, 0, 0] inb_S3x16x224x224_S1x1x224x224_0_0_0_0).view.dmaCredit
/-- The credit of one outgoing copy, sixteen channels. -/
def outAmt : ℕ := (outView ![0, 0, 0, 0] inb_S4x192x224x224_S1x16x224x224_0_0_0_0).view.dmaCredit

abbrev ringLoc : Loc nD τ sig := (c : Thread nD τ).loc cc2_scratch0
abbrev xLoc : Loc nD τ sig := (c : Thread nD τ).loc main_arg0
abbrev outLoc : Loc nD τ sig := (c : Thread nD τ).loc main_v29

/-- Row `i` of chunk `t`'s slot, at any contents. -/
def rowFree (t i : ℕ) : sProp 𝕄 := iprop(∃ f, ringLoc c ↦[rowSet (t % 3) i]{fullShare} f)
/-- The semaphore `(a, i)` at zero, and the share of the source its copies read with. -/
def sideFree (a i : ℕ) : sProp 𝕄 := iprop((xLoc c ↦{tok qx a i} X) ∗ semVal ((c : Thread nD τ), .dma (inSem a i)) 0)
/-- Row `i` of chunk `t` under way. -/
def rowFly (t i : ℕ) : sProp 𝕄 :=
  iprop(Flight countersEmb (c : Thread nD τ) (.dma (inSem t i)) () inAmt
      iprop((ringLoc c ↦[rowSet (t % 3) i]{fullShare} chunkBuf c T X t) ∗ (xLoc c ↦[chanSet (t / 12) (chan c T t i)]{tok qx t i} X))
    ∗ (xLoc c ↦[Finset.univ \ chanSet (t / 12) (chan c T t i)]{tok qx t i} X))
/-- Row `i` of chunk `t` arrived. -/
def rowDone (t i : ℕ) : sProp 𝕄 := iprop((ringLoc c ↦[rowSet (t % 3) i]{fullShare} chunkBuf c T X t) ∗ sideFree c X qx t i)

theorem amt_in {off : Fin 4 → ℕ} (h : ∀ x, off x + S1x1x224x224.size x ≤ S3x16x224x224.size x) :
    (rowView off h).view.dmaCredit = inAmt := rfl

theorem inAmt_pos : 0 < inAmt := View.dmaCredit_pos _ (by decide)

variable {𝒱 : Variants} {bd : Option 𝒱.V} {α : Type}

/-- What a copy of channel `r` of image `b` into row `i` writes there is what chunk `t` is to hold. -/
theorem write_row {t i : ℕ} (ht : t < 48) (hi : i < 16) (hr : chan c T t i < 384) {o2 o3 : Fin 4 → ℕ}
    (h2 : o2 = ![t % 3, i, 0, 0]) (h3 : o3 = ![t / 12, chan c T t i, 0, 0])
    (p2 : ∀ x, o2 x + S1x1x224x224.size x ≤ S3x16x224x224.size x) (p3 : ∀ x, o3 x + S1x1x224x224.size x ≤ S4x384x224x224.size x)
    (f : Buf (Elt F) (ringLoc c)) :
    ∀ j ∈ rowSet (t % 3) i,
      ((rowView o2 p2).view.write (Elt F) f
        ((xView o3 p3).view.read (Elt F) X) Finset.univ : Buf (Elt F) (ringLoc c)) j
      = chunkBuf c T X t j := by
  subst h2; subst h3
  intro j hj
  rw [← set_row rfl p2, ← Rect.map_emb_univ] at hj
  obtain ⟨y, -, rfl⟩ := Finset.mem_map.mp hj
  refine (View.write_emb_of_mem (v := (rowView _ p2).view) _ _ (Finset.mem_univ y)).trans ?_
  show X _ = X _
  congr 1
  funext a
  have y0 : (y 0).val < 1 := (y 0).isLt
  have y1 : (y 1).val < 1 := (y 1).isLt
  apply Fin.ext
  fin_cases a
  · show t / 12 + 1 * (y 0).val = t / 12 % 4
    omega
  · show chan c T t i + 1 * (y 1).val = chan c T t (i + 1 * (y 1).val) % 384
    rw [show (y 1).val = 0 by omega, Nat.mul_zero, Nat.add_zero, Nat.add_zero, Nat.mod_eq_of_lt hr]
  · rfl
  · rfl

theorem wp_issue {t i : ℕ} (ht : t < 48) (hi : i < 16) (hr : chan c T t i < 384) {o2 o3 : Fin 4 → ℕ} {s : DmaSem sig}
    (hs : s = inSem t i) (h2 : o2 = ![t % 3, i, 0, 0]) (h3 : o3 = ![t / 12, chan c T t i, 0, 0])
    (p2 : ∀ x, o2 x + S1x1x224x224.size x ≤ S3x16x224x224.size x) (p3 : ∀ x, o3 x + S1x1x224x224.size x ≤ S4x384x224x224.size x)
    {hsrc hdst hsem} {k : PUnit → Prog (TpuEff nD τ sig (Elt F) Λ₀ .tc) α} {Φ : α → sProp 𝕄} :
    iprop(rowFree c t i ∗ sideFree c X qx t i)
      ⊢ iprop((rowFly c T X qx t i -∗ wp frame (wpE defs₀ 𝒱 (c : Thread nD τ) bd) Set.univ (k ⟨⟩) Φ)
        -∗ wp frame (wpE defs₀ 𝒱 (c : Thread nD τ) bd) Set.univ
          (.op (.enqueueDmaAs (xView o3 p3)
            (.here (rowView o2 p2))
            .same (.dma s) hsrc hdst hsem) k) Φ) := by
  subst hs
  unfold rowFree sideFree
  iintro ⟨⟨%f, Hr⟩, Hx, Hv⟩ Hk
  ihave Hx2 := (pointsTo_split_subset (Finset.subset_univ (chanSet (t / 12) (chan c T t i)))).1 $$ Hx
  icases Hx2 with ⟨Hx1, Hxr⟩
  have e : (xView o3 p3).view.set = chanSet (t / 12) (chan c T t i) := (View.set_slice_whole _ _).trans (set_chan h3 p3)
  have H := Transfers.wp_dmaLocal (Q := Φ) (Name := ℕ) (Lvl := ℕ) (EC := countersEmb) (defs := defs₀) (U := Pipeline.UD sig nD τ) 𝒱 (c : Thread nD τ) bd (src := xView o3 p3) (dst := rowView o2 p2) (via := .same) (sm := .dma (inSem t i)) (hsrc := hsrc) (hdst := hdst) (hsem := hsem) (k := k)
    () inAmt (q := tok qx t i) (fs := X) (Sd := rowSet (t % 3) i) (fd := f)
    (amt_in p2) inAmt_pos (by rw [← set_row h2 p2]; exact (View.set_slice_whole _ _).le)
  rw [e] at H
  iapply H $$ [Hx1 Hr Hv]
  · isplitl [Hx1]; · iexact Hx1
    isplitl [Hr]; · iexact Hr
    iexact Hv
  iintro Hf
  iapply Hk
  unfold rowFly
  isplitl [Hf]
  · iapply (Transfers.Flight_mono countersEmb (c : Thread nD τ) (by
      rw [pointsTo_congr (write_row c T X ht hi hr h2 h3 p2 p3 f)])) $$ Hf
  iexact Hxr

/-- What the thread owes: nothing, whatever waits it has made. -/
def owesAny : sProp 𝕄 := iprop(∃ W, owes (c : Thread nD τ) 0 W)

theorem wp_waitIn {t i : ℕ} {s : DmaSem sig} (hs : s = inSem t i) {o : Fin 4 → ℕ} {p2}
    {srcw : Memref sig .tc .hbm S1x1x224x224 .f32} {hsrc hdst} {k : PUnit → Prog (TpuEff nD τ sig (Elt F) Λ₀ .tc) α} {Φ : α → sProp 𝕄} :
    iprop(rowFly c T X qx t i ∗ owesAny c)
      ⊢ iprop((iprop(rowDone c T X qx t i ∗ owesAny c) -∗ wp frame (wpE defs₀ 𝒱 (c : Thread nD τ) bd) Set.univ (k ⟨⟩) Φ)
        -∗ wp frame (wpE defs₀ 𝒱 (c : Thread nD τ) bd) Set.univ (.op (.waitDma2 s srcw (rowView o p2) hsrc hdst) k) Φ) := by
  subst hs
  unfold rowFly owesAny
  iintro ⟨⟨Hf, Hxr⟩, %W, Ho⟩ Hk
  iapply (Transfers.wp_waitLocal countersEmb 𝒱 (c : Thread nD τ) bd () (dstw := rowView o p2) (srcw := srcw) (N := inAmt) rfl) $$ [Hf Ho]
  · isplitl [Hf] <;> iassumption
  iintro ⟨⟨Hr, Hx⟩, Hv, Ho⟩
  iapply Hk
  unfold rowDone sideFree
  isplitr [Ho]
  · isplitl [Hr]; · iexact Hr
    isplitr [Hv]
    · iapply (pointsTo_split_subset (Finset.subset_univ (chanSet (t / 12) (chan c T t i)))).2
      isplitl [Hx] <;> iassumption
    iexact Hv
  iexists _
  iexact Ho

/-! ## The outgoing copies -/

/-- Slot of chunk `t`, at any contents. -/
def slotFree (t : ℕ) : sProp 𝕄 := iprop(∃ f, ringLoc c ↦[slotSet (t % 3)]{fullShare} f)
/-- Slot of chunk `t`, chunk `t` in it. -/
def slotFull (t : ℕ) : sProp 𝕄 := iprop(ringLoc c ↦[slotSet (t % 3)]{fullShare} chunkBuf c T X t)
/-- The semaphore of chunk `t`'s slot at zero. -/
def outZero (t : ℕ) : sProp 𝕄 := semVal ((c : Thread nD τ), .dma (outSem t)) 0
/-- Chunk `t`'s rows of the result, at any contents. -/
def outTodo (t : ℕ) : sProp 𝕄 := iprop(∃ f, outLoc c ↦[outSet t]{fullShare} f)
/-- Chunk `t`'s rows of the result, gathered. -/
def outDone (t : ℕ) : sProp 𝕄 := iprop(outLoc c ↦[outSet t]{fullShare} gathered c T X)
/-- Chunk `t` on its way out. -/
def outFly (t : ℕ) : sProp 𝕄 :=
  Flight countersEmb (c : Thread nD τ) (.dma (outSem t)) () outAmt iprop(outDone c T X t ∗ slotFull c T X t)

theorem amt_out {off : Fin 4 → ℕ} (h : ∀ x, off x + S1x16x224x224.size x ≤ S4x192x224x224.size x) : (outView off h).view.dmaCredit = outAmt := rfl

theorem outAmt_pos : 0 < outAmt := View.dmaCredit_pos _ (by decide)

/-- What a copy of chunk `t`'s slot writes into the result is the gathered array's rows there. -/
theorem write_out {t : ℕ} {o2 o3 : Fin 4 → ℕ} (h2 : o2 = ![t % 3, 0, 0, 0]) (h3 : o3 = ![t / 12, t % 12 * 16, 0, 0])
    (p2 : ∀ x, o2 x + S1x16x224x224.size x ≤ S3x16x224x224.size x) (p3 : ∀ x, o3 x + S1x16x224x224.size x ≤ S4x192x224x224.size x)
    (f : Buf (Elt F) (outLoc c)) :
    ∀ j ∈ outSet t, ((outView o3 p3).view.write (Elt F) f ((slotView o2 p2).view.read (Elt F) (chunkBuf c T X t)) Finset.univ : Buf (Elt F) (outLoc c)) j
      = gathered c T X j := by
  subst h2; subst h3
  intro j hj
  rw [← set_out rfl p3, ← Rect.map_emb_univ] at hj
  obtain ⟨y, -, rfl⟩ := Finset.mem_map.mp hj
  refine (View.write_emb_of_mem (v := (outView _ p3).view) _ _ (Finset.mem_univ y)).trans ?_
  have y0 : (y 0).val < 1 := (y 0).isLt
  have y1 : (y 1).val < 16 := (y 1).isLt
  show X (xIdx (t / 12) (chan c T t (0 + 1 * (y 1).val)) _ _) = X (xIdx (t / 12 + 1 * (y 0).val) (word c T (t / 12 + 1 * (y 0).val) (t % 12 * 16 + 1 * (y 1).val)).toNat _ _)
  rw [show (y 0).val = 0 by omega, Nat.mul_zero, Nat.add_zero, Nat.zero_add, Nat.one_mul]
  rfl

theorem wp_issueOut {t : ℕ} {s : DmaSem sig} (hs : s = outSem t) {o2 o3 : Fin 4 → ℕ}
    (h2 : o2 = ![t % 3, 0, 0, 0]) (h3 : o3 = ![t / 12, t % 12 * 16, 0, 0])
    (p2 : ∀ x, o2 x + S1x16x224x224.size x ≤ S3x16x224x224.size x) (p3 : ∀ x, o3 x + S1x16x224x224.size x ≤ S4x192x224x224.size x)
    {hsrc hdst hsem} {k : PUnit → Prog (TpuEff nD τ sig (Elt F) Λ₀ .tc) α} {Φ : α → sProp 𝕄} :
    iprop(slotFull c T X t ∗ outTodo c t ∗ outZero c t)
      ⊢ iprop((outFly c T X t -∗ wp frame (wpE defs₀ 𝒱 (c : Thread nD τ) bd) Set.univ (k ⟨⟩) Φ)
        -∗ wp frame (wpE defs₀ 𝒱 (c : Thread nD τ) bd) Set.univ
          (.op (.enqueueDmaAs (slotView o2 p2) (.here (outView o3 p3)) .same (.dma s) hsrc hdst hsem) k) Φ) := by
  subst hs
  unfold slotFull outTodo outZero
  iintro ⟨Hr, ⟨%f, Hx⟩, Hv⟩ Hk
  have e : (slotView o2 p2).view.set = slotSet (t % 3) := (View.set_slice_whole _ _).trans (set_slot h2 p2)
  have H := Transfers.wp_dmaLocal (Q := Φ) (Name := ℕ) (Lvl := ℕ) (EC := countersEmb) (defs := defs₀) (U := Pipeline.UD sig nD τ) 𝒱 (c : Thread nD τ) bd (src := slotView o2 p2) (dst := outView o3 p3) (via := .same) (sm := .dma (outSem t)) (hsrc := hsrc) (hdst := hdst) (hsem := hsem) (k := k)
    () outAmt (q := fullShare) (fs := chunkBuf c T X t) (Sd := outSet t) (fd := f)
    (amt_out p3) outAmt_pos (by rw [← set_out h3 p3]; exact (View.set_slice_whole _ _).le)
  rw [e] at H
  iapply H $$ [Hx Hr Hv]
  · isplitl [Hr]; · iexact Hr
    isplitl [Hx]; · iexact Hx
    iexact Hv
  iintro Hf
  iapply Hk
  unfold outFly outDone slotFull
  iapply (Transfers.Flight_mono countersEmb (c : Thread nD τ) (by
      rw [pointsTo_congr (write_out c T X h2 h3 p2 p3 f)])) $$ Hf

theorem wp_waitOut {t : ℕ} {s : DmaSem sig} (hs : s = outSem t) {o : Fin 4 → ℕ} {p2}
    {srcw : Memref sig .tc .vmem S1x16x224x224 .f32} {hsrc hdst} {k : PUnit → Prog (TpuEff nD τ sig (Elt F) Λ₀ .tc) α} {Φ : α → sProp 𝕄} :
    iprop(outFly c T X t ∗ owesAny c)
      ⊢ iprop((iprop((outDone c T X t ∗ slotFree c t ∗ outZero c t) ∗ owesAny c) -∗ wp frame (wpE defs₀ 𝒱 (c : Thread nD τ) bd) Set.univ (k ⟨⟩) Φ)
        -∗ wp frame (wpE defs₀ 𝒱 (c : Thread nD τ) bd) Set.univ (.op (.waitDma2 s srcw (outView o p2) hsrc hdst) k) Φ) := by
  subst hs
  unfold outFly owesAny
  iintro ⟨Hf, %W, Ho⟩ Hk
  iapply (Transfers.wp_waitLocal countersEmb 𝒱 (c : Thread nD τ) bd () (dstw := outView o p2) (srcw := srcw) (N := outAmt) rfl) $$ [Hf Ho]
  · isplitl [Hf] <;> iassumption
  iintro ⟨⟨Hr, Hx⟩, Hv, Ho⟩
  iapply Hk
  unfold slotFree slotFull outZero
  isplitr [Ho]
  · isplitl [Hr]; · iexact Hr
    isplitl [Hx]; · iexists _; iexact Hx
    iexact Hv
  iexists _
  iexact Ho

end Cert.Proof.Gather

end
-- ==== Proof.GatherOffs.lean ====
module

public import proofs.«01_k».proof.Proof.GatherRules

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The printed offsets in closed form

Trip `k` of the loop issues chunk `k + 1`, waits for the rows of chunk `k`, sends chunk `k` out. -/

/-- Where trip `k` reads the table for row `i`. -/
theorem offWord : ∀ (k : Fin k2_t1_loop.trips) (i : Fin 16),
    (![k2_off35 k, k2_off39 k, k2_off43 k, k2_off47 k, k2_off51 k, k2_off55 k, k2_off59 k, k2_off63 k,
      k2_off67 k, k2_off71 k, k2_off75 k, k2_off79 k, k2_off83 k, k2_off87 k, k2_off91 k, k2_off95 k] : Fin 16 → Fin 2 → ℕ) i
      = ![(k.val + 1) / 12, (k.val + 1) % 12 * 16 + i.val] := by decide +kernel

/-- The semaphore row `i` of the chunk issued in trip `k` arrives on. -/
theorem offIn : ∀ (k : Fin k2_t1_loop.trips) (i : Fin 16),
    (![k2_off36 k, k2_off40 k, k2_off44 k, k2_off48 k, k2_off52 k, k2_off56 k, k2_off60 k, k2_off64 k,
      k2_off68 k, k2_off72 k, k2_off76 k, k2_off80 k, k2_off84 k, k2_off88 k, k2_off92 k, k2_off96 k] : Fin 16 → Fin 2 → ℕ) i
      = ![(k.val + 1) % 2, i.val] := by decide +kernel

/-- The row of the ring it arrives in. -/
theorem offRow : ∀ (k : Fin k2_t1_loop.trips) (i : Fin 16),
    (![k2_off37 k, k2_off41 k, k2_off45 k, k2_off49 k, k2_off53 k, k2_off57 k, k2_off61 k, k2_off65 k,
      k2_off69 k, k2_off73 k, k2_off77 k, k2_off81 k, k2_off85 k, k2_off89 k, k2_off93 k, k2_off97 k] : Fin 16 → Fin 4 → ℕ) i
      = ![(k.val + 1) % 3, i.val, 0, 0] := by decide +kernel

/-- The channel of the source it comes from, `v` the table's word. -/
theorem offChan (k : Fin k2_t1_loop.trips) (v : BitVec 32) (i : Fin 16) :
    (![k2_off38 k v, k2_off42 k v, k2_off46 k v, k2_off50 k v, k2_off54 k v, k2_off58 k v, k2_off62 k v, k2_off66 k v,
      k2_off70 k v, k2_off74 k v, k2_off78 k v, k2_off82 k v, k2_off86 k v, k2_off90 k v, k2_off94 k v, k2_off98 k v] : Fin 16 → Fin 4 → ℕ) i
      = ![(k2_off35 k) 0, v.toNat, 0, 0] := by fin_cases i <;> rfl

/-- The semaphores trip `k` waits on for chunk `k`'s rows. -/
theorem offWait : ∀ (k : Fin k2_t1_loop.trips) (i : Fin 16),
    (![k2_off99 k, k2_off100 k, k2_off101 k, k2_off102 k, k2_off103 k, k2_off104 k, k2_off105 k, k2_off106 k,
      k2_off107 k, k2_off108 k, k2_off109 k, k2_off110 k, k2_off111 k, k2_off112 k, k2_off113 k, k2_off114 k] : Fin 16 → Fin 2 → ℕ) i
      = ![k.val % 2, i.val] := by decide +kernel

/-- The semaphore chunk `k` goes out on; the rows of the result it goes to; the slot it comes from. -/
theorem offOut : ∀ k : Fin k2_t1_loop.trips, k2_off115 k = ![k.val % 3] ∧ k2_off116 k = ![k.val / 12, k.val % 12 * 16, 0, 0]
    ∧ k2_off117 k = ![k.val % 3, 0, 0, 0] := by decide +kernel

/-- The semaphore of the chunk whose slot trip `k` needs: chunk `k - 2`, in the slot chunk `k + 1` takes. -/
theorem offFree : ∀ k : Fin k2_t1_loop.trips, k2_off33 k = ![(k.val + 1) % 3] := by decide +kernel

/-- Trip `k` waits for a slot from the third on, -/
theorem cond1_iff : ∀ k : Fin k2_t1_loop.trips, k2_cond1 k = 1#1 ↔ 2 ≤ k.val := by decide +kernel
/-- and issues a chunk but in the last. -/
theorem cond2_iff : ∀ k : Fin k2_t1_loop.trips, k2_cond2 k = 1#1 ↔ k.val < 47 := by decide +kernel

/-- Where the table is read for row `i` of chunk 0. -/
theorem offWord0 : ∀ i : Fin 16,
    (![k2_off1, k2_off3, k2_off5, k2_off7, k2_off9, k2_off11, k2_off13, k2_off15,
      k2_off17, k2_off19, k2_off21, k2_off23, k2_off25, k2_off27, k2_off29, k2_off31] : Fin 16 → Fin 2 → ℕ) i
      = ![0, i.val] := by decide +kernel

/-- The channel row `i` of chunk 0 comes from, `v` the table's word. -/
theorem offChan0 (v : BitVec 32) (i : Fin 16) :
    (![k2_off2 v, k2_off4 v, k2_off6 v, k2_off8 v, k2_off10 v, k2_off12 v, k2_off14 v, k2_off16 v,
      k2_off18 v, k2_off20 v, k2_off22 v, k2_off24 v, k2_off26 v, k2_off28 v, k2_off30 v, k2_off32 v] : Fin 16 → Fin 4 → ℕ) i
      = ![0, v.toNat, 0, 0] := by fin_cases i <;> rfl

/-- A channel in range lies in the source. -/
theorem chan_inb {o : Fin 4 → ℕ} {b r : ℕ} (ho : o = ![b, r, 0, 0]) (hb : b < 4) (hr : r < 384) :
    ∀ x, o x + S1x1x224x224.size x ≤ S4x384x224x224.size x := by
  subst ho
  simp [Fin.forall_fin_succ]
  omega

end Cert.Proof.Gather

end
-- ==== Proof.GatherState.lean ====
module

public import proofs.«01_k».proof.Proof.GatherOffs

/-! The sixteen rows of a chunk as one state: how many are issued, how many have arrived. -/

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)
variable {𝒱 : Variants} {bd : Option 𝒱.V} {α : Type}

/-- The table, held at a share. -/
def tbl (q : PosShare TreeShare) : sProp 𝕄 := iprop(((c : Thread nD τ).loc main_v28) ↦{q} T)

/-- A word read from the table is the table's word. -/
theorem wp_word {q : PosShare TreeShare} {b j : ℕ} (hb : b < 4) (hj : j < 192) {o : Fin 2 → ℕ} (ho : o = ![b, j])
    {p : ∀ x, o x + S1x1.size x ≤ S4x192.size x} {hl}
    {k : ((Rect.unit (s := S4x192) o S1x1.size p).shape.Idx → Elt F .i32) → Prog (TpuEff nD τ sig (Elt F) Λ₀ .tc) α}
    {Φ : α → sProp 𝕄} :
    tbl c T q ⊢ iprop((tbl c T q -∗ wp frame (wpE defs₀ 𝒱 (c : Thread nD τ) bd) Set.univ (k fun _ => word c T b j) Φ)
      -∗ wp frame (wpE defs₀ 𝒱 (c : Thread nD τ) bd) Set.univ
        (.op (.load (Memref.whole main_v28 : Memref sig .tc .smem S4x192 .i32) (Rect.unit (s := S4x192) o S1x1.size p).toLoadRect hl) k) Φ) := by
  subst ho
  have hw : ((Memref.whole main_v28 : Memref sig .tc .smem S4x192 .i32).access (Rect.unit (s := S4x192) ![b, j] S1x1.size p)).read (Elt F) T
      = fun _ => word c T b j := by
    funext y
    have y0 : (y 0).val < 1 := (y 0).isLt
    have y1 : (y 1).val < 1 := (y 1).isLt
    show T _ = T _
    congr 1
    funext a
    apply Fin.ext
    fin_cases a
    · show b + 1 * (y 0).val = b % 4
      omega
    · show j + 1 * (y 1).val = j % 192
      omega
  unfold tbl
  rw [show (k fun _ => word c T b j) = k (((Memref.whole main_v28 : Memref sig .tc .smem S4x192 .i32).access
    (Rect.unit (s := S4x192) ![b, j] S1x1.size p)).read (Elt F) T) from congrArg k hw.symm]
  exact wp_load_rect (defs := defs₀) 𝒱 (c : Thread nD τ) bd Set.univ (m := (Memref.whole main_v28 : Memref sig .tc .smem S4x192 .i32))
    (r := Rect.unit (s := S4x192) ![b, j] S1x1.size p) (S := Finset.univ) (q := q) (f := T) (Finset.subset_univ _)

/-- Chunk `t` with its first `n` rows issued. -/
def issuing (t n : ℕ) : sProp 𝕄 :=
  bigSep Finset.univ fun i : Fin 16 => if i.val < n then rowFly c T X qx t i.val else iprop(rowFree c t i.val ∗ sideFree c X qx t i.val)

/-- Chunk `t` with its first `n` rows arrived, the others under way. -/
def landing (t n : ℕ) : sProp 𝕄 :=
  bigSep Finset.univ fun i : Fin 16 => if i.val < n then rowDone c T X qx t i.val else rowFly c T X qx t i.val

/-- All issued is none arrived. -/
theorem issuing_all (t : ℕ) : issuing c T X qx t 16 = landing c T X qx t 0 := by
  unfold issuing landing
  exact bigSep_congr fun i _ => by rw [if_pos i.isLt, if_neg (Nat.not_lt_zero _)]

theorem issuing_landing (t : ℕ) : issuing c T X qx t 16 ⊢ landing c T X qx t 0 := (issuing_all c T X qx t).le

/-- The next row is issued. -/
theorem wp_issueNext {t : ℕ} (n : ℕ) (hn : n < 16) (ht : t < 48) {v : BitVec 32} (hv : v = word c T (t / 12) (t % 12 * 16 + n))
    (hT : ∀ b j, (word c T b j).toNat < 384) {o2 o3 : Fin 4 → ℕ} {s : DmaSem sig}
    (hs : s = inSem t n) (h2 : o2 = ![t % 3, n, 0, 0]) (h3 : o3 = ![t / 12, v.toNat, 0, 0])
    {p2 : ∀ x, o2 x + S1x1x224x224.size x ≤ S3x16x224x224.size x} {p3 : ∀ x, o3 x + S1x1x224x224.size x ≤ S4x384x224x224.size x}
    {hsrc hdst hsem} {k : PUnit → Prog (TpuEff nD τ sig (Elt F) Λ₀ .tc) α} {Φ : α → sProp 𝕄} :
    issuing c T X qx t n
      ⊢ iprop((issuing c T X qx t (n + 1) -∗ wp frame (wpE defs₀ 𝒱 (c : Thread nD τ) bd) Set.univ (k ⟨⟩) Φ)
        -∗ wp frame (wpE defs₀ 𝒱 (c : Thread nD τ) bd) Set.univ
          (.op (.enqueueDmaAs (xView o3 p3) (.here (rowView o2 p2)) .same (.dma s) hsrc hdst hsem) k) Φ) := by
  have hstep : issuing c T X qx t n ⊢ iprop((rowFree c t n ∗ sideFree c X qx t n)
      ∗ (rowFly c T X qx t n -∗ issuing c T X qx t (n + 1))) := by
    have H := bigSep_univ_update (M := 𝕄)
      (Φ := fun i : Fin 16 => if i.val < n then rowFly c T X qx t i.val else iprop(rowFree c t i.val ∗ sideFree c X qx t i.val))
      (Ψ := fun i : Fin 16 => if i.val < n + 1 then rowFly c T X qx t i.val else iprop(rowFree c t i.val ∗ sideFree c X qx t i.val))
      ⟨n, hn⟩ (fun j hj => by
        have : j.val ≠ n := fun e => hj (Fin.ext e)
        by_cases hlt : j.val < n
        · rw [if_pos hlt, if_pos (by omega)]
        · rw [if_neg hlt, if_neg (by omega)])
    rw [if_neg (Nat.lt_irrefl n), if_pos (Nat.lt_succ_self n)] at H
    exact H
  have hc : chan c T t n = v.toNat := by rw [hv]; rfl
  have hr : chan c T t n < 384 := hT _ _
  iintro H Hk
  icases hstep $$ H with ⟨Hrow, Hback⟩
  iapply (wp_issue c T X qx ht hn hr hs h2 (by rw [hc]; exact h3) p2 p3) $$ Hrow
  iintro Hfly
  iapply Hk
  iapply Hback
  iexact Hfly

/-- The next row has arrived. -/
theorem wp_landNext {t : ℕ} (n : ℕ) (hn : n < 16) {s : DmaSem sig} (hs : s = inSem t n) {o : Fin 4 → ℕ} {p2}
    {srcw : Memref sig .tc .hbm S1x1x224x224 .f32} {hsrc hdst} {k : PUnit → Prog (TpuEff nD τ sig (Elt F) Λ₀ .tc) α} {Φ : α → sProp 𝕄} :
    iprop(landing c T X qx t n ∗ owesAny c)
      ⊢ iprop((iprop(landing c T X qx t (n + 1) ∗ owesAny c) -∗ wp frame (wpE defs₀ 𝒱 (c : Thread nD τ) bd) Set.univ (k ⟨⟩) Φ)
        -∗ wp frame (wpE defs₀ 𝒱 (c : Thread nD τ) bd) Set.univ (.op (.waitDma2 s srcw (rowView o p2) hsrc hdst) k) Φ) := by
  have hstep : landing c T X qx t n ⊢ iprop(rowFly c T X qx t n ∗ (rowDone c T X qx t n -∗ landing c T X qx t (n + 1))) := by
    have H := bigSep_univ_update (M := 𝕄)
      (Φ := fun i : Fin 16 => if i.val < n then rowDone c T X qx t i.val else rowFly c T X qx t i.val)
      (Ψ := fun i : Fin 16 => if i.val < n + 1 then rowDone c T X qx t i.val else rowFly c T X qx t i.val)
      ⟨n, hn⟩ (fun j hj => by
        have : j.val ≠ n := fun e => hj (Fin.ext e)
        by_cases hlt : j.val < n
        · rw [if_pos hlt, if_pos (by omega)]
        · rw [if_neg hlt, if_neg (by omega)])
    rw [if_neg (Nat.lt_irrefl n), if_pos (Nat.lt_succ_self n)] at H
    exact H
  iintro ⟨H, Ho⟩ Hk
  icases hstep $$ H with ⟨Hrow, Hback⟩
  iapply (wp_waitIn c T X qx hs) $$ [Hrow Ho]
  · isplitl [Hrow]
    · iexact Hrow
    · iexact Ho
  iintro ⟨Hd, Ho⟩
  iapply Hk
  isplitl [Hback Hd]
  · iapply Hback
    iexact Hd
  · iexact Ho

end Cert.Proof.Gather

end
-- ==== Proof.GatherIssue.lean ====
module

public import proofs.«01_k».proof.Proof.GatherState

/-! A trip issues the next chunk: the five parts that do, each over the rows it issues. -/

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)
variable {𝒱 : Variants} {bd : Option 𝒱.V} {α : Type}

/-- The channel row `i` of the next chunk comes from. -/
theorem offChanT (t : Fin k2_t1_loop.trips) (v : BitVec 32) (i : Fin 16) :
    (![k2_off38 t v, k2_off42 t v, k2_off46 t v, k2_off50 t v, k2_off54 t v, k2_off58 t v, k2_off62 t v, k2_off66 t v,
      k2_off70 t v, k2_off74 t v, k2_off78 t v, k2_off82 t v, k2_off86 t v, k2_off90 t v, k2_off94 t v, k2_off98 t v] : Fin 16 → Fin 4 → ℕ) i
      = ![(t.val + 1) / 12, v.toNat, 0, 0] := by
  rw [offChan, show k2_off35 t = _ from offWord t 0]
  rfl

/-- A trip's checks hold of a word in range. -/
theorem chkT (t : Fin k2_t1_loop.trips) (v : BitVec 32) (hv : v.toNat < 384) (i : Fin 16) : k2_cond2 t = 1#1 →
    ∀ a, (![k2_off38 t v, k2_off42 t v, k2_off46 t v, k2_off50 t v, k2_off54 t v, k2_off58 t v, k2_off62 t v, k2_off66 t v,
      k2_off70 t v, k2_off74 t v, k2_off78 t v, k2_off82 t v, k2_off86 t v, k2_off90 t v, k2_off94 t v, k2_off98 t v] : Fin 16 → Fin 4 → ℕ) i a
      + S1x1x224x224.size a ≤ S4x384x224x224.size a := by
  intro h2
  have ht : t.val < 47 := (cond2_iff t).mp h2
  exact chan_inb (offChanT t v i) (by omega) hv

/-- The word row `i` of the next chunk is read from. -/
abbrev wordT (t : Fin k2_t1_loop.trips) (i : ℕ) : BitVec 32 := word c T ((t.val + 1) / 12) ((t.val + 1) % 12 * 16 + i)

variable (hT : ∀ b j, (word c T b j).toNat < 384)
include hT

set_option maxHeartbeats 400000 in
/-- Rows 0 to 0 are issued, and the word of the next read. -/
theorem part1 (i : grid2.Coords) (t : Fin k2_t1_loop.trips) (h : k2_cond2 t = 1#1) (a7 : BitVec 32)
    {Φ : _ → sProp 𝕄} :
    iprop((tbl c T fullShare ∗ issuing c T X qx (t.val + 1) 0) ∗
      (∀ r, ⌜r.2.2.1 = wordT c T t 1⌝ -∗ tbl c T fullShare -∗ issuing c T X qx (t.val + 1) 1 -∗ Φ r)) ⊢
      wp frame (wpE defs₀ 𝒱 (c : Thread nD τ) bd) Set.univ
        (k2_part1 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t a7 h) Φ := by
  have ht : t.val + 1 < 48 := by have := (cond2_iff t).mp h; omega
  iintro ⟨⟨Ht, Hi⟩, Hk⟩
  sl_rw [k2_part1_eq_skeleton]
  sl_unfold [k2_part1_skel]
  sl_exec
  iapply (wp_word c T (by omega) (by omega) (offWord t 0)) $$ Ht
  iintro Ht
  have hch : k2_chk17 t (wordT c T t 0) := chkT t _ (hT _ _) 0
  sl_exec
  iapply (wp_issueNext c T X qx 0 (by omega) ht rfl hT (sem_in (offIn t 0) (by omega) _) (offRow t 0) (offChanT t _ 0)) $$ Hi
  iintro Hi
  sl_exec
  iapply (wp_word c T (by omega) (by omega) (offWord t 1)) $$ Ht
  iintro Ht
  have hch : k2_chk18 t (wordT c T t 1) := chkT t _ (hT _ _) 1
  sl_exec
  sl_step
  iapply Hk $$ [] Ht Hi
  ipureintro
  rfl

set_option maxHeartbeats 400000 in
/-- Rows 1 to 4 are issued, and the word of the next read. -/
theorem part2 (i : grid2.Coords) (t : Fin k2_t1_loop.trips) (h : k2_cond2 t = 1#1) (a7 a8 : BitVec 32) {v : BitVec 32} (hw : k2_chk18 t v) (hv : v = wordT c T t 1)
    {Φ : _ → sProp 𝕄} :
    iprop((tbl c T fullShare ∗ issuing c T X qx (t.val + 1) 1) ∗
      (∀ r, ⌜r.1 = wordT c T t 5⌝ -∗ tbl c T fullShare -∗ issuing c T X qx (t.val + 1) 5 -∗ Φ r)) ⊢
      wp frame (wpE defs₀ 𝒱 (c : Thread nD τ) bd) Set.univ
        (k2_part2 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t h a7 a8 v hw) Φ := by
  have ht : t.val + 1 < 48 := by have := (cond2_iff t).mp h; omega
  iintro ⟨⟨Ht, Hi⟩, Hk⟩
  sl_rw [k2_part2_eq_skeleton]
  sl_unfold [k2_part2_skel]
  sl_exec
  iapply (wp_issueNext c T X qx 1 (by omega) ht hv hT (sem_in (offIn t 1) (by omega) _) (offRow t 1) (offChanT t _ 1)) $$ Hi
  iintro Hi
  sl_exec
  iapply (wp_word c T (by omega) (by omega) (offWord t 2)) $$ Ht
  iintro Ht
  have hch : k2_chk19 t (wordT c T t 2) := chkT t _ (hT _ _) 2
  sl_exec
  iapply (wp_issueNext c T X qx 2 (by omega) ht rfl hT (sem_in (offIn t 2) (by omega) _) (offRow t 2) (offChanT t _ 2)) $$ Hi
  iintro Hi
  sl_exec
  iapply (wp_word c T (by omega) (by omega) (offWord t 3)) $$ Ht
  iintro Ht
  have hch : k2_chk20 t (wordT c T t 3) := chkT t _ (hT _ _) 3
  sl_exec
  iapply (wp_issueNext c T X qx 3 (by omega) ht rfl hT (sem_in (offIn t 3) (by omega) _) (offRow t 3) (offChanT t _ 3)) $$ Hi
  iintro Hi
  sl_exec
  iapply (wp_word c T (by omega) (by omega) (offWord t 4)) $$ Ht
  iintro Ht
  have hch : k2_chk21 t (wordT c T t 4) := chkT t _ (hT _ _) 4
  sl_exec
  iapply (wp_issueNext c T X qx 4 (by omega) ht rfl hT (sem_in (offIn t 4) (by omega) _) (offRow t 4) (offChanT t _ 4)) $$ Hi
  iintro Hi
  sl_exec
  iapply (wp_word c T (by omega) (by omega) (offWord t 5)) $$ Ht
  iintro Ht
  have hch : k2_chk22 t (wordT c T t 5) := chkT t _ (hT _ _) 5
  sl_exec
  sl_step
  iapply Hk $$ [] Ht Hi
  ipureintro
  rfl

set_option maxHeartbeats 400000 in
/-- Rows 5 to 7 are issued, and the word of the next read. -/
theorem part3 (i : grid2.Coords) (t : Fin k2_t1_loop.trips) (h : k2_cond2 t = 1#1) (a7 a8 : BitVec 32) {v : BitVec 32} (hw : k2_chk22 t v) (hv : v = wordT c T t 5)
    {Φ : _ → sProp 𝕄} :
    iprop((tbl c T fullShare ∗ issuing c T X qx (t.val + 1) 5) ∗
      (∀ r, ⌜r.1 = wordT c T t 8⌝ -∗ tbl c T fullShare -∗ issuing c T X qx (t.val + 1) 8 -∗ Φ r)) ⊢
      wp frame (wpE defs₀ 𝒱 (c : Thread nD τ) bd) Set.univ
        (k2_part3 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t h a7 a8 v hw) Φ := by
  have ht : t.val + 1 < 48 := by have := (cond2_iff t).mp h; omega
  iintro ⟨⟨Ht, Hi⟩, Hk⟩
  sl_rw [k2_part3_eq_skeleton]
  sl_unfold [k2_part3_skel]
  sl_exec
  iapply (wp_issueNext c T X qx 5 (by omega) ht hv hT (sem_in (offIn t 5) (by omega) _) (offRow t 5) (offChanT t _ 5)) $$ Hi
  iintro Hi
  sl_exec
  iapply (wp_word c T (by omega) (by omega) (offWord t 6)) $$ Ht
  iintro Ht
  have hch : k2_chk23 t (wordT c T t 6) := chkT t _ (hT _ _) 6
  sl_exec
  iapply (wp_issueNext c T X qx 6 (by omega) ht rfl hT (sem_in (offIn t 6) (by omega) _) (offRow t 6) (offChanT t _ 6)) $$ Hi
  iintro Hi
  sl_exec
  iapply (wp_word c T (by omega) (by omega) (offWord t 7)) $$ Ht
  iintro Ht
  have hch : k2_chk24 t (wordT c T t 7) := chkT t _ (hT _ _) 7
  sl_exec
  iapply (wp_issueNext c T X qx 7 (by omega) ht rfl hT (sem_in (offIn t 7) (by omega) _) (offRow t 7) (offChanT t _ 7)) $$ Hi
  iintro Hi
  sl_exec
  iapply (wp_word c T (by omega) (by omega) (offWord t 8)) $$ Ht
  iintro Ht
  have hch : k2_chk25 t (wordT c T t 8) := chkT t _ (hT _ _) 8
  sl_exec
  sl_step
  iapply Hk $$ [] Ht Hi
  ipureintro
  rfl

set_option maxHeartbeats 400000 in
/-- Rows 8 to 11 are issued, and the word of the next read. -/
theorem part4 (i : grid2.Coords) (t : Fin k2_t1_loop.trips) (h : k2_cond2 t = 1#1) (a7 a8 : BitVec 32) {v : BitVec 32} (hw : k2_chk25 t v) (hv : v = wordT c T t 8)
    {Φ : _ → sProp 𝕄} :
    iprop((tbl c T fullShare ∗ issuing c T X qx (t.val + 1) 8) ∗
      (∀ r, ⌜r.1 = wordT c T t 12⌝ -∗ tbl c T fullShare -∗ issuing c T X qx (t.val + 1) 12 -∗ Φ r)) ⊢
      wp frame (wpE defs₀ 𝒱 (c : Thread nD τ) bd) Set.univ
        (k2_part4 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t h a7 a8 v hw) Φ := by
  have ht : t.val + 1 < 48 := by have := (cond2_iff t).mp h; omega
  iintro ⟨⟨Ht, Hi⟩, Hk⟩
  sl_rw [k2_part4_eq_skeleton]
  sl_unfold [k2_part4_skel]
  sl_exec
  iapply (wp_issueNext c T X qx 8 (by omega) ht hv hT (sem_in (offIn t 8) (by omega) _) (offRow t 8) (offChanT t _ 8)) $$ Hi
  iintro Hi
  sl_exec
  iapply (wp_word c T (by omega) (by omega) (offWord t 9)) $$ Ht
  iintro Ht
  have hch : k2_chk26 t (wordT c T t 9) := chkT t _ (hT _ _) 9
  sl_exec
  iapply (wp_issueNext c T X qx 9 (by omega) ht rfl hT (sem_in (offIn t 9) (by omega) _) (offRow t 9) (offChanT t _ 9)) $$ Hi
  iintro Hi
  sl_exec
  iapply (wp_word c T (by omega) (by omega) (offWord t 10)) $$ Ht
  iintro Ht
  have hch : k2_chk27 t (wordT c T t 10) := chkT t _ (hT _ _) 10
  sl_exec
  iapply (wp_issueNext c T X qx 10 (by omega) ht rfl hT (sem_in (offIn t 10) (by omega) _) (offRow t 10) (offChanT t _ 10)) $$ Hi
  iintro Hi
  sl_exec
  iapply (wp_word c T (by omega) (by omega) (offWord t 11)) $$ Ht
  iintro Ht
  have hch : k2_chk28 t (wordT c T t 11) := chkT t _ (hT _ _) 11
  sl_exec
  iapply (wp_issueNext c T X qx 11 (by omega) ht rfl hT (sem_in (offIn t 11) (by omega) _) (offRow t 11) (offChanT t _ 11)) $$ Hi
  iintro Hi
  sl_exec
  iapply (wp_word c T (by omega) (by omega) (offWord t 12)) $$ Ht
  iintro Ht
  have hch : k2_chk29 t (wordT c T t 12) := chkT t _ (hT _ _) 12
  sl_exec
  sl_step
  iapply Hk $$ [] Ht Hi
  ipureintro
  rfl

set_option maxHeartbeats 400000 in
/-- Rows 12 to 15 are issued. -/
theorem part5 (i : grid2.Coords) (t : Fin k2_t1_loop.trips) (h : k2_cond2 t = 1#1) (a7 a8 : BitVec 32) {v : BitVec 32} (hw : k2_chk29 t v) (hv : v = wordT c T t 12)
    {Φ : _ → sProp 𝕄} :
    iprop((tbl c T fullShare ∗ issuing c T X qx (t.val + 1) 12) ∗
      (∀ r, tbl c T fullShare -∗ issuing c T X qx (t.val + 1) 16 -∗ Φ r)) ⊢
      wp frame (wpE defs₀ 𝒱 (c : Thread nD τ) bd) Set.univ
        (k2_part5 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t h a7 a8 v hw) Φ := by
  have ht : t.val + 1 < 48 := by have := (cond2_iff t).mp h; omega
  iintro ⟨⟨Ht, Hi⟩, Hk⟩
  sl_rw [k2_part5_eq_skeleton]
  sl_unfold [k2_part5_skel]
  sl_exec
  iapply (wp_issueNext c T X qx 12 (by omega) ht hv hT (sem_in (offIn t 12) (by omega) _) (offRow t 12) (offChanT t _ 12)) $$ Hi
  iintro Hi
  sl_exec
  iapply (wp_word c T (by omega) (by omega) (offWord t 13)) $$ Ht
  iintro Ht
  have hch : k2_chk30 t (wordT c T t 13) := chkT t _ (hT _ _) 13
  sl_exec
  iapply (wp_issueNext c T X qx 13 (by omega) ht rfl hT (sem_in (offIn t 13) (by omega) _) (offRow t 13) (offChanT t _ 13)) $$ Hi
  iintro Hi
  sl_exec
  iapply (wp_word c T (by omega) (by omega) (offWord t 14)) $$ Ht
  iintro Ht
  have hch : k2_chk31 t (wordT c T t 14) := chkT t _ (hT _ _) 14
  sl_exec
  iapply (wp_issueNext c T X qx 14 (by omega) ht rfl hT (sem_in (offIn t 14) (by omega) _) (offRow t 14) (offChanT t _ 14)) $$ Hi
  iintro Hi
  sl_exec
  iapply (wp_word c T (by omega) (by omega) (offWord t 15)) $$ Ht
  iintro Ht
  have hch : k2_chk32 t (wordT c T t 15) := chkT t _ (hT _ _) 15
  sl_exec
  iapply (wp_issueNext c T X qx 15 (by omega) ht rfl hT (sem_in (offIn t 15) (by omega) _) (offRow t 15) (offChanT t _ 15)) $$ Hi
  iintro Hi
  sl_exec
  sl_step
  iapply Hk $$ Ht Hi

end Cert.Proof.Gather

end
-- ==== Proof.GatherTrip.lean ====
module

public import proofs.«01_k».proof.Proof.GatherIssue

/-! One trip of the gather: the state between trips, and the trip. -/

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)
variable {𝒱 : Variants} {bd : Option 𝒱.V} {α : Type}

/-- The semaphores and shares of one side. -/
def sides (a : ℕ) : sProp 𝕄 := bigSep Finset.univ fun i : Fin 16 => sideFree c X qx a i.val

/-- The chunk before the last, or the slot it would have taken. -/
def behind (k : ℕ) : sProp 𝕄 := if 2 ≤ k then outFly c T X (k - 2) else iprop(slotFree c (k + 1) ∗ outZero c (k + 1))
/-- The last chunk, or the slot it would have taken. -/
def behind1 (k : ℕ) : sProp 𝕄 := if 1 ≤ k then outFly c T X (k - 1) else iprop(slotFree c (k + 2) ∗ outZero c (k + 2))
/-- The chunk gone out two trips ago. -/
def gone (k : ℕ) : sProp 𝕄 := if 2 ≤ k then outDone c T X (k - 2) else iprop(emp)
/-- Chunk `k` under way, or nothing left to bring. -/
def next (k : ℕ) : sProp 𝕄 := if k < 48 then landing c T X qx k 0 else iprop(slotFree c k ∗ sides c X qx k)

theorem sides_mod {a b : ℕ} (h : a % 2 = b % 2) : sides c X qx a = sides c X qx b := by
  simp only [sides, sideFree, tok, inSem, h]

theorem slotFree_mod {a b : ℕ} (h : a % 3 = b % 3) : slotFree (F := F) c a = slotFree c b := by
  simp only [slotFree, h]

theorem outZero_mod {a b : ℕ} (h : a % 3 = b % 3) : outZero (F := F) c a = outZero c b := by
  simp only [outZero, outSem, h]

theorem rows_disj (p : ℕ) : ∀ a b : Fin 16, a ≠ b → Disjoint (rowSet p a.val) (rowSet p b.val) := by
  intro a b hab
  rw [Finset.disjoint_left]
  intro j ha hb
  simp only [rowSet, Finset.mem_filter, Finset.mem_univ, true_and] at ha hb
  exact hab (Fin.ext (ha.2.symm.trans hb.2))

theorem rows_all (p : ℕ) : (Finset.univ.biUnion fun i : Fin 16 => rowSet p i.val) = slotSet p := by
  ext j
  simp only [rowSet, slotSet, Finset.mem_biUnion, Finset.mem_filter, Finset.mem_univ, true_and]
  constructor
  · rintro ⟨i, h, _⟩
    exact h
  · intro h
    exact ⟨⟨(j 1).val, (j 1).isLt⟩, h, rfl⟩

/-- A slot's cells are its rows' cells, whatever they hold. -/
theorem slot_at (p : ℕ) (f : Buf (Elt F) (ringLoc c)) :
    (ringLoc c ↦[slotSet p]{fullShare} f : sProp 𝕄) = bigSep Finset.univ fun i : Fin 16 => ringLoc c ↦[rowSet p i.val]{fullShare} f := by
  rw [← rows_all p]
  exact pointsTo_biUnion (ℓ := ringLoc c) Finset.univ (fun i : Fin 16 => rowSet p i.val) fun a _ b _ h => rows_disj p a b h

/-- A row at some contents is free. -/
theorem row_free (t i : ℕ) (f : Buf (Elt F) (ringLoc c)) : (ringLoc c ↦[rowSet (t % 3) i]{fullShare} f : sProp 𝕄) ⊢ rowFree c t i := by
  unfold rowFree
  iintro H
  iexists f
  iexact H

/-- A slot is its sixteen rows. -/
theorem slot_rows (t : ℕ) : slotFree (F := F) c t ⊢ bigSep Finset.univ fun i : Fin 16 => rowFree c t i.val := by
  unfold slotFree
  iintro ⟨%f, H⟩
  have e : (ringLoc c ↦[slotSet (t % 3)]{fullShare} f : sProp 𝕄) ⊢ bigSep Finset.univ fun i : Fin 16 => ringLoc c ↦[rowSet (t % 3) i.val]{fullShare} f :=
    (slot_at (F := F) c (t % 3) f).le
  ihave H' := e $$ H
  have e2 : (bigSep Finset.univ fun i : Fin 16 => (ringLoc c ↦[rowSet (t % 3) i.val]{fullShare} f : sProp 𝕄))
      ⊢ bigSep Finset.univ fun i : Fin 16 => rowFree c t i.val :=
    bigSep_mono fun i _ => row_free c t i.val f
  iapply e2 $$ H'

/-- A free slot and a free side: a chunk with none of its rows issued. -/
theorem issuing_none (t : ℕ) : iprop(slotFree c t ∗ sides c X qx t) ⊢ issuing c T X qx t 0 := by
  have e : issuing c T X qx t 0
      = iprop((bigSep Finset.univ fun i : Fin 16 => rowFree c t i.val) ∗ bigSep Finset.univ fun i : Fin 16 => sideFree c X qx t i.val) := by
    unfold issuing
    rw [← bigSep_sep']
    exact bigSep_congr fun i _ => by rw [if_neg (Nat.not_lt_zero _)]
  rw [e]
  unfold sides
  iintro ⟨Hs, Hx⟩
  ihave Hr := slot_rows c t $$ Hs
  isplitl [Hr]
  · iexact Hr
  · iexact Hx

/-- A chunk all of whose rows have arrived: the slot holds it, and its side is free again. -/
theorem landing_all (t : ℕ) : landing c T X qx t 16 ⊢ iprop(slotFull c T X t ∗ sides c X qx t) := by
  have e : landing c T X qx t 16 = iprop(slotFull c T X t ∗ sides c X qx t) := by
    unfold landing sides slotFull
    rw [slot_at, ← bigSep_sep']
    exact bigSep_congr fun i _ => by rw [if_pos i.isLt]; rfl
  rw [e]

set_option maxHeartbeats 400000 in
/-- Rows 2 to 5 are awaited. -/
theorem part7 (i : grid2.Coords) (t : Fin k2_t1_loop.trips)
    {Φ : _ → sProp 𝕄} :
    iprop((landing c T X qx t.val 2 ∗ owesAny c) ∗
      (∀ r, landing c T X qx t.val 6 -∗ owesAny c -∗ Φ r)) ⊢
      wp frame (wpE defs₀ 𝒱 (c : Thread nD τ) bd) Set.univ
        (k2_part7 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t) Φ := by
  iintro ⟨⟨Hl, Ho⟩, Hk⟩
  sl_rw [k2_part7_eq_skeleton]
  sl_unfold [k2_part7_skel]
  sl_exec
  iapply (wp_landNext c T X qx 2 (by omega) (sem_in (offWait t 2) (by omega) _)) $$ [Hl Ho]
  · isplitl [Hl] <;> iassumption
  iintro ⟨Hl, Ho⟩
  sl_exec
  iapply (wp_landNext c T X qx 3 (by omega) (sem_in (offWait t 3) (by omega) _)) $$ [Hl Ho]
  · isplitl [Hl] <;> iassumption
  iintro ⟨Hl, Ho⟩
  sl_exec
  iapply (wp_landNext c T X qx 4 (by omega) (sem_in (offWait t 4) (by omega) _)) $$ [Hl Ho]
  · isplitl [Hl] <;> iassumption
  iintro ⟨Hl, Ho⟩
  sl_exec
  iapply (wp_landNext c T X qx 5 (by omega) (sem_in (offWait t 5) (by omega) _)) $$ [Hl Ho]
  · isplitl [Hl] <;> iassumption
  iintro ⟨Hl, Ho⟩
  sl_exec
  sl_step
  iapply Hk $$ Hl Ho

set_option maxHeartbeats 400000 in
/-- Rows 6 to 10 are awaited. -/
theorem part8 (i : grid2.Coords) (t : Fin k2_t1_loop.trips)
    {Φ : _ → sProp 𝕄} :
    iprop((landing c T X qx t.val 6 ∗ owesAny c) ∗
      (∀ r, landing c T X qx t.val 11 -∗ owesAny c -∗ Φ r)) ⊢
      wp frame (wpE defs₀ 𝒱 (c : Thread nD τ) bd) Set.univ
        (k2_part8 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t) Φ := by
  iintro ⟨⟨Hl, Ho⟩, Hk⟩
  sl_rw [k2_part8_eq_skeleton]
  sl_unfold [k2_part8_skel]
  sl_exec
  iapply (wp_landNext c T X qx 6 (by omega) (sem_in (offWait t 6) (by omega) _)) $$ [Hl Ho]
  · isplitl [Hl] <;> iassumption
  iintro ⟨Hl, Ho⟩
  sl_exec
  iapply (wp_landNext c T X qx 7 (by omega) (sem_in (offWait t 7) (by omega) _)) $$ [Hl Ho]
  · isplitl [Hl] <;> iassumption
  iintro ⟨Hl, Ho⟩
  sl_exec
  iapply (wp_landNext c T X qx 8 (by omega) (sem_in (offWait t 8) (by omega) _)) $$ [Hl Ho]
  · isplitl [Hl] <;> iassumption
  iintro ⟨Hl, Ho⟩
  sl_exec
  iapply (wp_landNext c T X qx 9 (by omega) (sem_in (offWait t 9) (by omega) _)) $$ [Hl Ho]
  · isplitl [Hl] <;> iassumption
  iintro ⟨Hl, Ho⟩
  sl_exec
  iapply (wp_landNext c T X qx 10 (by omega) (sem_in (offWait t 10) (by omega) _)) $$ [Hl Ho]
  · isplitl [Hl] <;> iassumption
  iintro ⟨Hl, Ho⟩
  sl_exec
  sl_step
  iapply Hk $$ Hl Ho

set_option maxHeartbeats 400000 in
/-- Rows 11 to 14 are awaited. -/
theorem part9 (i : grid2.Coords) (t : Fin k2_t1_loop.trips)
    {Φ : _ → sProp 𝕄} :
    iprop((landing c T X qx t.val 11 ∗ owesAny c) ∗
      (∀ r, landing c T X qx t.val 15 -∗ owesAny c -∗ Φ r)) ⊢
      wp frame (wpE defs₀ 𝒱 (c : Thread nD τ) bd) Set.univ
        (k2_part9 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 t) Φ := by
  iintro ⟨⟨Hl, Ho⟩, Hk⟩
  sl_rw [k2_part9_eq_skeleton]
  sl_unfold [k2_part9_skel]
  sl_exec
  iapply (wp_landNext c T X qx 11 (by omega) (sem_in (offWait t 11) (by omega) _)) $$ [Hl Ho]
  · isplitl [Hl] <;> iassumption
  iintro ⟨Hl, Ho⟩
  sl_exec
  iapply (wp_landNext c T X qx 12 (by omega) (sem_in (offWait t 12) (by omega) _)) $$ [Hl Ho]
  · isplitl [Hl] <;> iassumption
  iintro ⟨Hl, Ho⟩
  sl_exec
  iapply (wp_landNext c T X qx 13 (by omega) (sem_in (offWait t 13) (by omega) _)) $$ [Hl Ho]
  · isplitl [Hl] <;> iassumption
  iintro ⟨Hl, Ho⟩
  sl_exec
  iapply (wp_landNext c T X qx 14 (by omega) (sem_in (offWait t 14) (by omega) _)) $$ [Hl Ho]
  · isplitl [Hl] <;> iassumption
  iintro ⟨Hl, Ho⟩
  sl_exec
  sl_step
  iapply Hk $$ Hl Ho

/-- The wait that frees the slot of the chunk two back. -/
theorem wp_free {k : ℕ} (h2 : 2 ≤ k) {s : DmaSem sig} (hs : s = outSem (k + 1)) {o : Fin 4 → ℕ} {p2}
    {srcw : Memref sig .tc .vmem S1x16x224x224 .f32} {hsrc hdst} {K : PUnit → Prog (TpuEff nD τ sig (Elt F) Λ₀ .tc) α} {Φ : α → sProp 𝕄} :
    iprop(behind c T X k ∗ owesAny c)
      ⊢ iprop((iprop((gone c T X k ∗ slotFree c (k + 1) ∗ outZero c (k + 1)) ∗ owesAny c) -∗ wp frame (wpE defs₀ 𝒱 (c : Thread nD τ) bd) Set.univ (K ⟨⟩) Φ)
        -∗ wp frame (wpE defs₀ 𝒱 (c : Thread nD τ) bd) Set.univ (.op (.waitDma2 s srcw (outView o p2) hsrc hdst) K) Φ) := by
  have h3 : (k - 2) % 3 = (k + 1) % 3 := by omega
  unfold behind gone
  rw [if_pos h2, if_pos h2, ← slotFree_mod c h3, ← outZero_mod c h3]
  exact wp_waitOut c T X (t := k - 2) (hs.trans (by simp only [outSem, h3]))

/-- Before the third trip the slot is free as it is. -/
theorem behind_free {k : ℕ} (h2 : ¬ 2 ≤ k) : behind c T X k ⊢ iprop(gone c T X k ∗ slotFree c (k + 1) ∗ outZero c (k + 1)) := by
  unfold behind gone
  rw [if_neg h2, if_neg h2]
  iintro H
  isplitr
  · iempintro
  · iexact H

/-- A program and then another: the first to where the second starts. -/
theorem wp_into {α β : Type} {m : Prog (TpuEff nD τ sig (Elt F) Λ₀ .tc) β} {k : β → Prog (TpuEff nD τ sig (Elt F) Λ₀ .tc) α} {Φ : α → sProp 𝕄} :
    wp frame (wpE defs₀ 𝒱 (c : Thread nD τ) bd) Set.univ m (fun a => wp frame (wpE defs₀ 𝒱 (c : Thread nD τ) bd) Set.univ (k a) Φ)
      ⊢ wp frame (wpE defs₀ 𝒱 (c : Thread nD τ) bd) Set.univ (m >>= k) Φ := by
  rw [wp_bind]

/-- The next chunk is under way. -/
theorem next_of_landing {k : ℕ} (h : k < 48) : landing c T X qx k 0 ⊢ next c T X qx k := by
  unfold next
  rw [if_pos h]

/-- No next chunk: the slot and the side stay free. -/
theorem next_of_free {k : ℕ} (h : ¬ k < 48) : iprop(slotFree c k ∗ sides c X qx k) ⊢ next c T X qx k := by
  unfold next
  rw [if_neg h]

set_option maxHeartbeats 400000 in
/-- The first part of a trip: the slot two chunks back is awaited, the next chunk issued into it, two rows awaited. -/
theorem part6 (hT : ∀ b j, (word c T b j).toNat < 384) (i : grid2.Coords) (t : Fin k2_t1_loop.trips) (c1 c2 : BitVec 32)
    {Φ : _ → sProp 𝕄} :
    iprop((tbl c T fullShare ∗ behind c T X t.val ∗ sides c X qx (t.val + 1) ∗ landing c T X qx t.val 0 ∗ owesAny c) ∗
      (∀ r, tbl c T fullShare -∗ outZero c (t.val + 1) -∗ gone c T X t.val -∗ next c T X qx (t.val + 1) -∗ landing c T X qx t.val 2 -∗ owesAny c -∗ Φ r)) ⊢
      wp frame (wpE defs₀ 𝒱 (c : Thread nD τ) bd) Set.univ
        (k2_part6 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 c1 c2 t) Φ := by
  have ht : t.val < 48 := t.isLt
  iintro ⟨⟨Ht, Hb, Hx, Hl, Ho⟩, Hk⟩
  sl_rw [k2_part6_eq_skeleton]
  sl_unfold [k2_part6_skel]
  by_cases h2 : k2_cond2 t = 1#1
  · have ht1 : t.val + 1 < 48 := by have := (cond2_iff t).mp h2; omega
    have H1 := fun a7 Φ => part1 c T X qx (𝒱 := 𝒱) (bd := bd) hT i t h2 a7 (Φ := Φ)
    have H2 := fun a7 a8 v hw hv Φ => part2 c T X qx (𝒱 := 𝒱) (bd := bd) hT i t h2 a7 a8 (v := v) hw hv (Φ := Φ)
    have H3 := fun a7 a8 v hw hv Φ => part3 c T X qx (𝒱 := 𝒱) (bd := bd) hT i t h2 a7 a8 (v := v) hw hv (Φ := Φ)
    have H4 := fun a7 a8 v hw hv Φ => part4 c T X qx (𝒱 := 𝒱) (bd := bd) hT i t h2 a7 a8 (v := v) hw hv (Φ := Φ)
    have H5 := fun a7 a8 v hw hv Φ => part5 c T X qx (𝒱 := 𝒱) (bd := bd) hT i t h2 a7 a8 (v := v) hw hv (Φ := Φ)
    generalize k2_part1 (F := F) = Z1 at H1 ⊢
    generalize k2_part2 (F := F) = Z2 at H2 ⊢
    generalize k2_part3 (F := F) = Z3 at H3 ⊢
    generalize k2_part4 (F := F) = Z4 at H4 ⊢
    generalize k2_part5 (F := F) = Z5 at H5 ⊢
    by_cases h1 : k2_cond1 t = 1#1
    · sl_exec
      iapply (wp_free c T X ((cond1_iff t).mp h1) (sem_out (offFree t) _)) $$ [Hb Ho]
      · isplitl [Hb] <;> iassumption
      iintro ⟨⟨Hg, Hs, Hz⟩, Ho⟩
      sl_exec
      ihave Hi := (issuing_none c T X qx (t.val + 1)) $$ [Hs Hx]
      · isplitl [Hs] <;> iassumption
      iapply (wp_into c)
      iapply (H1 _ _)
      isplitl [Ht Hi]
      · isplitl [Ht] <;> iassumption
      iintro %r %hr Ht Hi
      obtain ⟨a7, a8, v, hw⟩ := r
      iapply (wp_into c)
      iapply (H2 _ _ _ hw hr _)
      isplitl [Ht Hi]
      · isplitl [Ht] <;> iassumption
      iintro %r %hr Ht Hi
      obtain ⟨v, hw⟩ := r
      iapply (wp_into c)
      iapply (H3 _ _ _ hw hr _)
      isplitl [Ht Hi]
      · isplitl [Ht] <;> iassumption
      iintro %r %hr Ht Hi
      obtain ⟨v, hw⟩ := r
      iapply (wp_into c)
      iapply (H4 _ _ _ hw hr _)
      isplitl [Ht Hi]
      · isplitl [Ht] <;> iassumption
      iintro %r %hr Ht Hi
      obtain ⟨v, hw⟩ := r
      iapply (wp_into c)
      iapply (H5 _ _ _ hw hr _)
      isplitl [Ht Hi]
      · isplitl [Ht] <;> iassumption
      iintro %r Ht Hi
      ihave Hl' := (issuing_landing c T X qx (t.val + 1)) $$ Hi
      ihave Hn := (next_of_landing c T X qx ht1) $$ Hl'
      sl_exec
      iapply (wp_landNext c T X qx 0 (by omega) (sem_in (offWait t 0) (by omega) _)) $$ [Hl Ho]
      · isplitl [Hl] <;> iassumption
      iintro ⟨Hl, Ho⟩
      sl_exec
      iapply (wp_landNext c T X qx 1 (by omega) (sem_in (offWait t 1) (by omega) _)) $$ [Hl Ho]
      · isplitl [Hl] <;> iassumption
      iintro ⟨Hl, Ho⟩
      sl_exec
      sl_step
      iapply Hk $$ Ht Hz Hg Hn Hl Ho
    · icases (behind_free c T X fun h => h1 ((cond1_iff t).mpr h)) $$ Hb with ⟨Hg, Hs, Hz⟩
      sl_exec
      ihave Hi := (issuing_none c T X qx (t.val + 1)) $$ [Hs Hx]
      · isplitl [Hs] <;> iassumption
      iapply (wp_into c)
      iapply (H1 _ _)
      isplitl [Ht Hi]
      · isplitl [Ht] <;> iassumption
      iintro %r %hr Ht Hi
      obtain ⟨a7, a8, v, hw⟩ := r
      iapply (wp_into c)
      iapply (H2 _ _ _ hw hr _)
      isplitl [Ht Hi]
      · isplitl [Ht] <;> iassumption
      iintro %r %hr Ht Hi
      obtain ⟨v, hw⟩ := r
      iapply (wp_into c)
      iapply (H3 _ _ _ hw hr _)
      isplitl [Ht Hi]
      · isplitl [Ht] <;> iassumption
      iintro %r %hr Ht Hi
      obtain ⟨v, hw⟩ := r
      iapply (wp_into c)
      iapply (H4 _ _ _ hw hr _)
      isplitl [Ht Hi]
      · isplitl [Ht] <;> iassumption
      iintro %r %hr Ht Hi
      obtain ⟨v, hw⟩ := r
      iapply (wp_into c)
      iapply (H5 _ _ _ hw hr _)
      isplitl [Ht Hi]
      · isplitl [Ht] <;> iassumption
      iintro %r Ht Hi
      ihave Hl' := (issuing_landing c T X qx (t.val + 1)) $$ Hi
      ihave Hn := (next_of_landing c T X qx ht1) $$ Hl'
      sl_exec
      iapply (wp_landNext c T X qx 0 (by omega) (sem_in (offWait t 0) (by omega) _)) $$ [Hl Ho]
      · isplitl [Hl] <;> iassumption
      iintro ⟨Hl, Ho⟩
      sl_exec
      iapply (wp_landNext c T X qx 1 (by omega) (sem_in (offWait t 1) (by omega) _)) $$ [Hl Ho]
      · isplitl [Hl] <;> iassumption
      iintro ⟨Hl, Ho⟩
      sl_exec
      sl_step
      iapply Hk $$ Ht Hz Hg Hn Hl Ho
  · have ht47 : ¬ t.val + 1 < 48 := fun h => h2 ((cond2_iff t).mpr (by omega))
    have h1 : k2_cond1 t = 1#1 := (cond1_iff t).mpr (by omega)
    sl_exec
    iapply (wp_free c T X ((cond1_iff t).mp h1) (sem_out (offFree t) _)) $$ [Hb Ho]
    · isplitl [Hb] <;> iassumption
    iintro ⟨⟨Hg, Hs, Hz⟩, Ho⟩
    ihave Hn := (next_of_free c T X qx ht47) $$ [Hs Hx]
    · isplitl [Hs] <;> iassumption
    sl_exec
    iapply (wp_landNext c T X qx 0 (by omega) (sem_in (offWait t 0) (by omega) _)) $$ [Hl Ho]
    · isplitl [Hl] <;> iassumption
    iintro ⟨Hl, Ho⟩
    sl_exec
    iapply (wp_landNext c T X qx 1 (by omega) (sem_in (offWait t 1) (by omega) _)) $$ [Hl Ho]
    · isplitl [Hl] <;> iassumption
    iintro ⟨Hl, Ho⟩
    sl_exec
    sl_step
    iapply Hk $$ Ht Hz Hg Hn Hl Ho

end Cert.Proof.Gather

end
-- ==== Proof.GatherLoop.lean ====
module

public import proofs.«01_k».proof.Proof.GatherTrip

/-! The gather's loop: the invariant and one trip. -/

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)
variable {𝒱 : Variants} {bd : Option 𝒱.V} {α : Type}

/-- The blocks of the result whose chunks are not yet sent out. -/
def todos (k : ℕ) : sProp 𝕄 := bigSep Finset.univ fun j : Fin 48 => if k ≤ j.val then outTodo c j.val else iprop(emp)
/-- The blocks of the result that hold their chunks. -/
def dones (k : ℕ) : sProp 𝕄 := bigSep Finset.univ fun j : Fin 48 => if j.val + 2 < k then outDone c T X j.val else iprop(emp)

/-- The next block to be sent. -/
theorem todos_step {k : ℕ} (hk : k < 48) : todos (F := F) c k ⊢ iprop(outTodo c k ∗ todos c (k + 1)) := by
  have H := bigSep_univ_update (M := 𝕄)
    (Φ := fun j : Fin 48 => if k ≤ j.val then outTodo (F := F) c j.val else iprop(emp))
    (Ψ := fun j : Fin 48 => if k + 1 ≤ j.val then outTodo (F := F) c j.val else iprop(emp))
    ⟨k, hk⟩ (fun j hj => by
      have : j.val ≠ k := fun e => hj (Fin.ext e)
      by_cases hlt : k ≤ j.val
      · rw [if_pos hlt, if_pos (by omega)]
      · rw [if_neg hlt, if_neg (by omega)])
  rw [if_pos (Nat.le_refl k), if_neg (Nat.not_succ_le_self k)] at H
  unfold todos
  iintro Ht
  icases H $$ Ht with ⟨Hk, Hr⟩
  isplitl [Hk]
  · iexact Hk
  · iapply Hr
    iempintro

/-- One more block holds its chunk. -/
theorem dones_step {k : ℕ} (hk : k < 50) : iprop(gone c T X k ∗ dones c T X k) ⊢ dones c T X (k + 1) := by
  unfold gone dones
  by_cases h2 : 2 ≤ k
  · have H := bigSep_univ_update (M := 𝕄)
      (Φ := fun j : Fin 48 => if j.val + 2 < k then outDone c T X j.val else iprop(emp))
      (Ψ := fun j : Fin 48 => if j.val + 2 < k + 1 then outDone c T X j.val else iprop(emp))
      ⟨k - 2, by omega⟩ (fun j hj => by
        have : j.val ≠ k - 2 := fun e => hj (Fin.ext e)
        by_cases hlt : j.val + 2 < k
        · rw [if_pos hlt, if_pos (by omega)]
        · rw [if_neg hlt, if_neg (by omega)])
    rw [if_neg (show ¬ (k - 2 + 2 < k) by omega), if_pos (show k - 2 + 2 < k + 1 by omega)] at H
    rw [if_pos h2]
    iintro ⟨Hg, Hd⟩
    icases H $$ Hd with ⟨-, Hr⟩
    iapply Hr
    iexact Hg
  · rw [if_neg h2]
    have e : (bigSep Finset.univ fun j : Fin 48 => if j.val + 2 < k then outDone c T X j.val else iprop(emp))
        = bigSep Finset.univ fun j : Fin 48 => if j.val + 2 < k + 1 then outDone c T X j.val else iprop(emp) :=
      bigSep_congr fun j _ => by rw [if_neg (by omega), if_neg (by omega)]
    rw [e]
    iintro ⟨-, Hd⟩
    iexact Hd

/-- Between trips: chunk `k` under way, the two before it going out, the blocks before those done. -/
def inv (k : ℕ) : sProp 𝕄 :=
  iprop(next c T X qx k ∗ sides c X qx (k + 1) ∗ behind c T X k ∗ behind1 c T X k ∗ outZero c k
    ∗ todos c k ∗ dones c T X k ∗ tbl c T fullShare ∗ owesAny c)

theorem landing_of_next {k : ℕ} (h : k < 48) : next c T X qx k ⊢ landing c T X qx k 0 := by
  unfold next
  rw [if_pos h]

theorem behind_succ (k : ℕ) : behind1 c T X k ⊢ behind c T X (k + 1) := by
  unfold behind behind1
  by_cases h : 1 ≤ k
  · rw [if_pos h, if_pos (by omega), show k + 1 - 2 = k - 1 by omega]
  · rw [if_neg h, if_neg (by omega)]

theorem behind1_succ (k : ℕ) : outFly c T X k ⊢ behind1 c T X (k + 1) := by
  unfold behind1
  rw [if_pos (by omega), Nat.add_sub_cancel]

theorem sides_succ (k : ℕ) : sides c X qx k ⊢ sides c X qx (k + 1 + 1) := (sides_mod c X qx (by omega)).le

set_option maxHeartbeats 400000 in
/-- One trip. -/
theorem trip (hT : ∀ b j, (word c T b j).toNat < 384) (i : grid2.Coords) (v1 : BitVec 32) (v102 : Elt F .i32) (hw : k2_chk15 v102)
    (t : Fin k2_t1_loop.trips) {Φ : Unit → sProp 𝕄} :
    iprop(inv c T X qx t.val ∗ (inv c T X qx (t.val + 1) -∗ Φ ⟨⟩)) ⊢
      wp frame (wpE defs₀ 𝒱 (c : Thread nD τ) bd) Set.univ
        (k2_t1_body (F := F) i (Memref.whole main_v28) (Memref.isWhole_whole _) (Memref.whole main_arg0) (Memref.isWhole_whole _)
        (Memref.whole main_v29) (Memref.isWhole_whole _) (Memref.whole cc2_scratch0) (Memref.isWhole_whole _) cc2_scratch1 cc2_scratch2 v1 v102 hw t ⟨⟩) Φ := by
  have ht : t.val < 48 := t.isLt
  unfold inv
  iintro ⟨⟨Hn, Hx, Hb, Hb1, Hz, Htd, Hdn, Ht, Ho⟩, Hk⟩
  ihave Hl := (landing_of_next c T X qx ht) $$ Hn
  icases (todos_step c ht) $$ Htd with ⟨Hto, Htd⟩
  sl_unfold [k2_t1_body]
  have H6 := fun c1 c2 Φ => part6 c T X qx (𝒱 := 𝒱) (bd := bd) hT i t c1 c2 (Φ := Φ)
  have H7 := fun Φ => part7 c T X qx (𝒱 := 𝒱) (bd := bd) i t (Φ := Φ)
  have H8 := fun Φ => part8 c T X qx (𝒱 := 𝒱) (bd := bd) i t (Φ := Φ)
  have H9 := fun Φ => part9 c T X qx (𝒱 := 𝒱) (bd := bd) i t (Φ := Φ)
  generalize k2_part6 (F := F) = Z6 at H6 ⊢
  generalize k2_part7 (F := F) = Z7 at H7 ⊢
  generalize k2_part8 (F := F) = Z8 at H8 ⊢
  generalize k2_part9 (F := F) = Z9 at H9 ⊢
  iapply (wp_into c)
  iapply (H6 _ _ _)
  isplitl [Ht Hb Hx Hl Ho]
  · isplitl [Ht]; · iexact Ht
    isplitl [Hb]; · iexact Hb
    isplitl [Hx]; · iexact Hx
    isplitl [Hl] <;> iassumption
  iintro %r Ht Hz1 Hg Hn Hl Ho
  iapply (wp_into c)
  iapply (H7 _)
  isplitl [Hl Ho]
  · isplitl [Hl] <;> iassumption
  iintro %r7 Hl Ho
  iapply (wp_into c)
  iapply (H8 _)
  isplitl [Hl Ho]
  · isplitl [Hl] <;> iassumption
  iintro %r8 Hl Ho
  iapply (wp_into c)
  iapply (H9 _)
  isplitl [Hl Ho]
  · isplitl [Hl] <;> iassumption
  iintro %r9 Hl Ho
  sl_exec
  iapply (wp_landNext c T X qx 15 (by omega) (sem_in (offWait t 15) (by omega) _)) $$ [Hl Ho]
  · isplitl [Hl] <;> iassumption
  iintro ⟨Hl, Ho⟩
  icases (landing_all c T X qx t.val) $$ Hl with ⟨Hs, Hx⟩
  sl_exec
  iapply (wp_issueOut c T X (sem_out (offOut t).1 _) (offOut t).2.2 (offOut t).2.1 _ _) $$ [Hs Hto Hz]
  · isplitl [Hs]; · iexact Hs
    isplitl [Hto] <;> iassumption
  iintro Hf
  sl_exec
  sl_step
  iapply Hk
  isplitl [Hn]; · iexact Hn
  isplitl [Hx]
  · iapply (sides_succ c X qx t.val) $$ Hx
  isplitl [Hb1]
  · iapply (behind_succ c T X t.val) $$ Hb1
  isplitl [Hf]
  · iapply (behind1_succ c T X t.val) $$ Hf
  isplitl [Hz1]; · iexact Hz1
  isplitl [Htd]; · iexact Htd
  isplitl [Hg Hdn]
  · iapply (dones_step c T X (by omega)) $$ [Hg Hdn]
    isplitl [Hg] <;> iassumption
  isplitl [Ht] <;> iassumption

end Cert.Proof.Gather

end
-- ==== Proof.GatherBody.lean ====
module

public import proofs.«01_k».proof.Proof.GatherLoop

/-! The gather's body: chunk 0 is issued, the loop runs, the last two chunks are awaited. -/

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))
  (qx : PosShare TreeShare)
variable {𝒱 : Variants} {bd : Option 𝒱.V} {α : Type}

/-- The checks before the loop hold of a word in range. -/
theorem chk0 (v : BitVec 32) (hv : v.toNat < 384) (i : Fin 16) :
    ∀ a, (![k2_off2 v, k2_off4 v, k2_off6 v, k2_off8 v, k2_off10 v, k2_off12 v, k2_off14 v, k2_off16 v,
      k2_off18 v, k2_off20 v, k2_off22 v, k2_off24 v, k2_off26 v, k2_off28 v, k2_off30 v, k2_off32 v] : Fin 16 → Fin 4 → ℕ) i a
      + S1x1x224x224.size a ≤ S4x384x224x224.size a :=
  chan_inb (offChan0 v i) (by omega) hv

/-- The word row `i` of chunk 0 is read from. -/
abbrev word0 (i : ℕ) : BitVec 32 := word c T 0 i

variable (hT : ∀ b j, (word c T b j).toNat < 384)
include hT

set_option maxHeartbeats 400000 in
/-- Rows 0 to 1 of chunk 0 are issued, and the word of the next read. -/
theorem part10 (i : grid2.Coords)
    {Φ : _ → sProp 𝕄} :
    iprop((tbl c T fullShare ∗ issuing c T X qx 0 0) ∗
      (∀ r, ⌜r.2.1 = word0 c T 2⌝ -∗ tbl c T fullShare -∗ issuing c T X qx 0 2 -∗ Φ r)) ⊢
      wp frame (wpE defs₀ 𝒱 (c : Thread nD τ) bd) Set.univ
        (k2_part10 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2) Φ := by
  iintro ⟨⟨Ht, Hi⟩, Hk⟩
  sl_rw [k2_part10_eq_skeleton]
  sl_unfold [k2_part10_skel]
  sl_exec
  iapply (wp_word c T (by omega) (by omega) (offWord0 0)) $$ Ht
  iintro Ht
  have hch : k2_chk1 (word0 c T 0) := chk0 _ (hT _ _) 0
  sl_exec
  iapply (wp_issueNext c T X qx (t := 0) 0 (by omega) (by omega) rfl hT (sem_in rfl (by omega) _) rfl (offChan0 _ 0)) $$ Hi
  iintro Hi
  sl_exec
  iapply (wp_word c T (by omega) (by omega) (offWord0 1)) $$ Ht
  iintro Ht
  have hch : k2_chk2 (word0 c T 1) := chk0 _ (hT _ _) 1
  sl_exec
  iapply (wp_issueNext c T X qx (t := 0) 1 (by omega) (by omega) rfl hT (sem_in rfl (by omega) _) rfl (offChan0 _ 1)) $$ Hi
  iintro Hi
  sl_exec
  iapply (wp_word c T (by omega) (by omega) (offWord0 2)) $$ Ht
  iintro Ht
  have hch : k2_chk3 (word0 c T 2) := chk0 _ (hT _ _) 2
  sl_exec
  sl_step
  iapply Hk $$ [] Ht Hi
  ipureintro
  rfl

set_option maxHeartbeats 400000 in
/-- Rows 2 to 4 of chunk 0 are issued, and the word of the next read. -/
theorem part11 (i : grid2.Coords) (a7 : BitVec 32) {v : BitVec 32} (hw : k2_chk3 v) (hv : v = word0 c T 2)
    {Φ : _ → sProp 𝕄} :
    iprop((tbl c T fullShare ∗ issuing c T X qx 0 2) ∗
      (∀ r, ⌜r.1 = word0 c T 5⌝ -∗ tbl c T fullShare -∗ issuing c T X qx 0 5 -∗ Φ r)) ⊢
      wp frame (wpE defs₀ 𝒱 (c : Thread nD τ) bd) Set.univ
        (k2_part11 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 a7 v hw) Φ := by
  iintro ⟨⟨Ht, Hi⟩, Hk⟩
  sl_rw [k2_part11_eq_skeleton]
  sl_unfold [k2_part11_skel]
  sl_exec
  iapply (wp_issueNext c T X qx (t := 0) 2 (by omega) (by omega) hv hT (sem_in rfl (by omega) _) rfl (offChan0 _ 2)) $$ Hi
  iintro Hi
  sl_exec
  iapply (wp_word c T (by omega) (by omega) (offWord0 3)) $$ Ht
  iintro Ht
  have hch : k2_chk4 (word0 c T 3) := chk0 _ (hT _ _) 3
  sl_exec
  iapply (wp_issueNext c T X qx (t := 0) 3 (by omega) (by omega) rfl hT (sem_in rfl (by omega) _) rfl (offChan0 _ 3)) $$ Hi
  iintro Hi
  sl_exec
  iapply (wp_word c T (by omega) (by omega) (offWord0 4)) $$ Ht
  iintro Ht
  have hch : k2_chk5 (word0 c T 4) := chk0 _ (hT _ _) 4
  sl_exec
  iapply (wp_issueNext c T X qx (t := 0) 4 (by omega) (by omega) rfl hT (sem_in rfl (by omega) _) rfl (offChan0 _ 4)) $$ Hi
  iintro Hi
  sl_exec
  iapply (wp_word c T (by omega) (by omega) (offWord0 5)) $$ Ht
  iintro Ht
  have hch : k2_chk6 (word0 c T 5) := chk0 _ (hT _ _) 5
  sl_exec
  sl_step
  iapply Hk $$ [] Ht Hi
  ipureintro
  rfl

set_option maxHeartbeats 400000 in
/-- Rows 5 to 7 of chunk 0 are issued, and the word of the next read. -/
theorem part12 (i : grid2.Coords) (a7 : BitVec 32) {v : BitVec 32} (hw : k2_chk6 v) (hv : v = word0 c T 5)
    {Φ : _ → sProp 𝕄} :
    iprop((tbl c T fullShare ∗ issuing c T X qx 0 5) ∗
      (∀ r, ⌜r.1 = word0 c T 8⌝ -∗ tbl c T fullShare -∗ issuing c T X qx 0 8 -∗ Φ r)) ⊢
      wp frame (wpE defs₀ 𝒱 (c : Thread nD τ) bd) Set.univ
        (k2_part12 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 a7 v hw) Φ := by
  iintro ⟨⟨Ht, Hi⟩, Hk⟩
  sl_rw [k2_part12_eq_skeleton]
  sl_unfold [k2_part12_skel]
  sl_exec
  iapply (wp_issueNext c T X qx (t := 0) 5 (by omega) (by omega) hv hT (sem_in rfl (by omega) _) rfl (offChan0 _ 5)) $$ Hi
  iintro Hi
  sl_exec
  iapply (wp_word c T (by omega) (by omega) (offWord0 6)) $$ Ht
  iintro Ht
  have hch : k2_chk7 (word0 c T 6) := chk0 _ (hT _ _) 6
  sl_exec
  iapply (wp_issueNext c T X qx (t := 0) 6 (by omega) (by omega) rfl hT (sem_in rfl (by omega) _) rfl (offChan0 _ 6)) $$ Hi
  iintro Hi
  sl_exec
  iapply (wp_word c T (by omega) (by omega) (offWord0 7)) $$ Ht
  iintro Ht
  have hch : k2_chk8 (word0 c T 7) := chk0 _ (hT _ _) 7
  sl_exec
  iapply (wp_issueNext c T X qx (t := 0) 7 (by omega) (by omega) rfl hT (sem_in rfl (by omega) _) rfl (offChan0 _ 7)) $$ Hi
  iintro Hi
  sl_exec
  iapply (wp_word c T (by omega) (by omega) (offWord0 8)) $$ Ht
  iintro Ht
  have hch : k2_chk9 (word0 c T 8) := chk0 _ (hT _ _) 8
  sl_exec
  sl_step
  iapply Hk $$ [] Ht Hi
  ipureintro
  rfl

set_option maxHeartbeats 400000 in
/-- Rows 8 to 10 of chunk 0 are issued, and the word of the next read. -/
theorem part13 (i : grid2.Coords) (a7 : BitVec 32) {v : BitVec 32} (hw : k2_chk9 v) (hv : v = word0 c T 8)
    {Φ : _ → sProp 𝕄} :
    iprop((tbl c T fullShare ∗ issuing c T X qx 0 8) ∗
      (∀ r, ⌜r.1 = word0 c T 11⌝ -∗ tbl c T fullShare -∗ issuing c T X qx 0 11 -∗ Φ r)) ⊢
      wp frame (wpE defs₀ 𝒱 (c : Thread nD τ) bd) Set.univ
        (k2_part13 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 a7 v hw) Φ := by
  iintro ⟨⟨Ht, Hi⟩, Hk⟩
  sl_rw [k2_part13_eq_skeleton]
  sl_unfold [k2_part13_skel]
  sl_exec
  iapply (wp_issueNext c T X qx (t := 0) 8 (by omega) (by omega) hv hT (sem_in rfl (by omega) _) rfl (offChan0 _ 8)) $$ Hi
  iintro Hi
  sl_exec
  iapply (wp_word c T (by omega) (by omega) (offWord0 9)) $$ Ht
  iintro Ht
  have hch : k2_chk10 (word0 c T 9) := chk0 _ (hT _ _) 9
  sl_exec
  iapply (wp_issueNext c T X qx (t := 0) 9 (by omega) (by omega) rfl hT (sem_in rfl (by omega) _) rfl (offChan0 _ 9)) $$ Hi
  iintro Hi
  sl_exec
  iapply (wp_word c T (by omega) (by omega) (offWord0 10)) $$ Ht
  iintro Ht
  have hch : k2_chk11 (word0 c T 10) := chk0 _ (hT _ _) 10
  sl_exec
  iapply (wp_issueNext c T X qx (t := 0) 10 (by omega) (by omega) rfl hT (sem_in rfl (by omega) _) rfl (offChan0 _ 10)) $$ Hi
  iintro Hi
  sl_exec
  iapply (wp_word c T (by omega) (by omega) (offWord0 11)) $$ Ht
  iintro Ht
  have hch : k2_chk12 (word0 c T 11) := chk0 _ (hT _ _) 11
  sl_exec
  sl_step
  iapply Hk $$ [] Ht Hi
  ipureintro
  rfl

set_option maxHeartbeats 400000 in
/-- Rows 11 to 13 of chunk 0 are issued, and the word of the next read. -/
theorem part14 (i : grid2.Coords) (a7 : BitVec 32) {v : BitVec 32} (hw : k2_chk12 v) (hv : v = word0 c T 11)
    {Φ : _ → sProp 𝕄} :
    iprop((tbl c T fullShare ∗ issuing c T X qx 0 11) ∗
      (∀ r, ⌜r.1 = word0 c T 14⌝ -∗ tbl c T fullShare -∗ issuing c T X qx 0 14 -∗ Φ r)) ⊢
      wp frame (wpE defs₀ 𝒱 (c : Thread nD τ) bd) Set.univ
        (k2_part14 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 a7 v hw) Φ := by
  iintro ⟨⟨Ht, Hi⟩, Hk⟩
  sl_rw [k2_part14_eq_skeleton]
  sl_unfold [k2_part14_skel]
  sl_exec
  iapply (wp_issueNext c T X qx (t := 0) 11 (by omega) (by omega) hv hT (sem_in rfl (by omega) _) rfl (offChan0 _ 11)) $$ Hi
  iintro Hi
  sl_exec
  iapply (wp_word c T (by omega) (by omega) (offWord0 12)) $$ Ht
  iintro Ht
  have hch : k2_chk13 (word0 c T 12) := chk0 _ (hT _ _) 12
  sl_exec
  iapply (wp_issueNext c T X qx (t := 0) 12 (by omega) (by omega) rfl hT (sem_in rfl (by omega) _) rfl (offChan0 _ 12)) $$ Hi
  iintro Hi
  sl_exec
  iapply (wp_word c T (by omega) (by omega) (offWord0 13)) $$ Ht
  iintro Ht
  have hch : k2_chk14 (word0 c T 13) := chk0 _ (hT _ _) 13
  sl_exec
  iapply (wp_issueNext c T X qx (t := 0) 13 (by omega) (by omega) rfl hT (sem_in rfl (by omega) _) rfl (offChan0 _ 13)) $$ Hi
  iintro Hi
  sl_exec
  iapply (wp_word c T (by omega) (by omega) (offWord0 14)) $$ Ht
  iintro Ht
  have hch : k2_chk15 (word0 c T 14) := chk0 _ (hT _ _) 14
  sl_exec
  sl_step
  iapply Hk $$ [] Ht Hi
  ipureintro
  rfl

/-- What the body starts from: the ring's slots and the two sides free, the result's blocks to be written. -/
def start : sProp 𝕄 :=
  iprop((slotFree c 0 ∗ slotFree c 1 ∗ slotFree c 2) ∗ (sides c X qx 0 ∗ sides c X qx 1)
    ∗ (outZero c 0 ∗ outZero c 1 ∗ outZero c 2) ∗ todos c 0 ∗ tbl c T fullShare ∗ owesAny c)

/-- What it ends with: the same, the result's blocks holding what was gathered. -/
def finish : sProp 𝕄 :=
  iprop((slotFree c 0 ∗ slotFree c 1 ∗ slotFree c 2) ∗ (sides c X qx 0 ∗ sides c X qx 1)
    ∗ (outZero c 0 ∗ outZero c 1 ∗ outZero c 2) ∗ dones c T X 50 ∗ tbl c T fullShare ∗ owesAny c)

omit hT in
/-- Before the first trip. -/
theorem inv_zero : iprop(landing c T X qx 0 0 ∗ sides c X qx 1 ∗ (slotFree c 1 ∗ outZero c 1) ∗ (slotFree c 2 ∗ outZero c 2)
    ∗ outZero c 0 ∗ todos c 0 ∗ tbl c T fullShare ∗ owesAny c) ⊢ inv c T X qx 0 := by
  have e : dones c T X 0 = bigSep Finset.univ fun _ : Fin 48 => iprop(emp) := bigSep_congr fun j _ => by rw [if_neg (by omega)]
  have e' : iprop(emp) ⊢ dones c T X 0 := by
    rw [e]
    exact (bigSep_emp_const _).ge
  unfold inv next behind behind1
  rw [if_pos (by omega), if_neg (by omega), if_neg (by omega)]
  iintro ⟨Hl, Hx, Hb, Hb1, Hz, Htd, Ht, Ho⟩
  isplitl [Hl]; · iexact Hl
  isplitl [Hx]; · iexact Hx
  isplitl [Hb]; · iexact Hb
  isplitl [Hb1]; · iexact Hb1
  isplitl [Hz]; · iexact Hz
  isplitl [Htd]; · iexact Htd
  isplitr
  · iapply e'
    iempintro
  isplitl [Ht] <;> iassumption

omit hT in
/-- After the last trip. -/
theorem inv_last : inv c T X qx 48 ⊢ iprop(slotFree c 0 ∗ sides c X qx 0 ∗ sides c X qx 1 ∗ outFly c T X 46 ∗ outFly c T X 47 ∗ outZero c 0
    ∗ dones c T X 48 ∗ tbl c T fullShare ∗ owesAny c) := by
  unfold inv next behind behind1
  rw [if_neg (by omega), if_pos (by omega), if_pos (by omega), sides_mod c X qx (show 48 % 2 = 0 % 2 by decide),
    sides_mod c X qx (show (48 + 1) % 2 = 1 % 2 by decide), slotFree_mod c (show 48 % 3 = 0 % 3 by decide),
    outZero_mod c (show 48 % 3 = 0 % 3 by decide)]
  iintro ⟨⟨Hs, Hx0⟩, Hx1, Hb, Hb1, Hz, Htd, Hd, Ht, Ho⟩
  isplitl [Hs]; · iexact Hs
  isplitl [Hx0]; · iexact Hx0
  isplitl [Hx1]; · iexact Hx1
  isplitl [Hb]; · iexact Hb
  isplitl [Hb1]; · iexact Hb1
  isplitl [Hz]; · iexact Hz
  isplitl [Hd]; · iexact Hd
  isplitl [Ht] <;> iassumption

omit hT in
/-- The last two blocks. -/
theorem dones_last : iprop(outDone c T X 46 ∗ outDone c T X 47 ∗ dones c T X 48) ⊢ dones c T X 50 := by
  have h1 := dones_step c T X (k := 48) (by omega)
  have h2 := dones_step c T X (k := 49) (by omega)
  unfold gone at h1 h2
  rw [if_pos (by omega)] at h1 h2
  iintro ⟨H46, H47, Hd⟩
  iapply h2
  isplitl [H47]; · iexact H47
  iapply h1
  isplitl [H46] <;> iassumption

omit hT in
theorem finish_of : iprop(slotFree c 0 ∗ slotFree c 46 ∗ slotFree c 47 ∗ sides c X qx 0 ∗ sides c X qx 1 ∗ outZero c 0 ∗ outZero c 46 ∗ outZero c 47
    ∗ outDone c T X 46 ∗ outDone c T X 47 ∗ dones c T X 48 ∗ tbl c T fullShare ∗ owesAny c) ⊢ finish c T X qx := by
  unfold finish
  rw [slotFree_mod c (show 46 % 3 = 1 % 3 by decide), slotFree_mod c (show 47 % 3 = 2 % 3 by decide),
    outZero_mod c (show 46 % 3 = 1 % 3 by decide), outZero_mod c (show 47 % 3 = 2 % 3 by decide)]
  iintro ⟨Hs0, Hs1, Hs2, Hx0, Hx1, Hz0, Hz1, Hz2, Hd1, Hd2, Hd, Ht, Ho⟩
  isplitl [Hs0 Hs1 Hs2]
  · isplitl [Hs0]; · iexact Hs0
    isplitl [Hs1] <;> iassumption
  isplitl [Hx0 Hx1]
  · isplitl [Hx0] <;> iassumption
  isplitl [Hz0 Hz1 Hz2]
  · isplitl [Hz0]; · iexact Hz0
    isplitl [Hz1] <;> iassumption
  isplitl [Hd1 Hd2 Hd]
  · iapply (dones_last c T X)
    isplitl [Hd1]; · iexact Hd1
    isplitl [Hd2] <;> iassumption
  isplitl [Ht] <;> iassumption

set_option maxHeartbeats 400000 in
/-- The last part: the chunk's last two rows, the loop, and the waits for the last two chunks. -/
theorem part15 (i : grid2.Coords) (v1 : BitVec 32) {v : BitVec 32} (hw : k2_chk15 v) (hv : v = word0 c T 14)
    {Φ : _ → sProp 𝕄} :
    iprop((tbl c T fullShare ∗ issuing c T X qx 0 14 ∗ sides c X qx 1 ∗ (slotFree c 1 ∗ outZero c 1) ∗ (slotFree c 2 ∗ outZero c 2)
      ∗ outZero c 0 ∗ todos c 0 ∗ owesAny c) ∗ (finish c T X qx -∗ Φ ⟨⟩)) ⊢
      wp frame (wpE defs₀ 𝒱 (c : Thread nD τ) bd) Set.univ
        (k2_part15 (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 v1 v hw) Φ := by
  iintro ⟨⟨Ht, Hi, Hx1, Hb, Hb1, Hz, Htd, Ho⟩, Hk⟩
  sl_rw [k2_part15_eq_skeleton]
  sl_unfold [k2_part15_skel]
  have htrip := fun t Φ => trip c T X qx (𝒱 := 𝒱) (bd := bd) hT i v1 v hw t (Φ := Φ)
  sl_exec
  iapply (wp_issueNext c T X qx (t := 0) 14 (by omega) (by omega) hv hT (sem_in rfl (by omega) _) rfl (offChan0 _ 14)) $$ Hi
  iintro Hi
  sl_exec
  iapply (wp_word c T (by omega) (by omega) (offWord0 15)) $$ Ht
  iintro Ht
  have hch : k2_chk16 (word0 c T 15) := chk0 _ (hT _ _) 15
  sl_exec
  iapply (wp_issueNext c T X qx (t := 0) 15 (by omega) (by omega) rfl hT (sem_in rfl (by omega) _) rfl (offChan0 _ 15)) $$ Hi
  iintro Hi
  sl_exec
  ihave Hl := (issuing_landing c T X qx 0) $$ Hi
  sl_for (fun k _ => inv c T X qx k) $$ [Hl Hx1 Hb Hb1 Hz Htd Ht Ho]
  · intro k acc
    refine BIBase.Entails.trans ?_ (htrip k _)
    iintro H
    isplitl [H]
    · iexact H
    · iintro H
      iexact H
  · iapply (inv_zero c T X qx)
    isplitl [Hl]; · iexact Hl
    isplitl [Hx1]; · iexact Hx1
    isplitl [Hb]; · iexact Hb
    isplitl [Hb1]; · iexact Hb1
    isplitl [Hz]; · iexact Hz
    isplitl [Htd]; · iexact Htd
    isplitl [Ht] <;> iassumption
  iintro %acc Hi
  have hlast : inv c T X qx (Scf.trips k2_t1_loop.lb k2_t1_loop.ub k2_t1_loop.st) ⊢ _ := inv_last c T X qx
  icases hlast $$ Hi with ⟨Hs0, Hx0, Hx1, Hf1, Hf2, Hz0, Hd, Ht, Ho⟩
  sl_exec
  iapply (wp_waitOut c T X (t := 46) (sem_out rfl _)) $$ [Hf1 Ho]
  · isplitl [Hf1] <;> iassumption
  iintro ⟨⟨Hd1, Hs1, Hz1⟩, Ho⟩
  sl_exec
  iapply (wp_waitOut c T X (t := 47) (sem_out rfl _)) $$ [Hf2 Ho]
  · isplitl [Hf2] <;> iassumption
  iintro ⟨⟨Hd2, Hs2, Hz2⟩, Ho⟩
  sl_exec
  sl_step
  iapply Hk
  iapply (finish_of c T X qx)
  isplitl [Hs0]; · iexact Hs0
  isplitl [Hs1]; · iexact Hs1
  isplitl [Hs2]; · iexact Hs2
  isplitl [Hx0]; · iexact Hx0
  isplitl [Hx1]; · iexact Hx1
  isplitl [Hz0]; · iexact Hz0
  isplitl [Hz1]; · iexact Hz1
  isplitl [Hz2]; · iexact Hz2
  isplitl [Hd1]; · iexact Hd1
  isplitl [Hd2]; · iexact Hd2
  isplitl [Hd]; · iexact Hd
  isplitl [Ht] <;> iassumption

set_option maxHeartbeats 400000 in
/-- The gather's body: from the table, the source and the result's blocks at any contents, to the blocks holding what was gathered. -/
theorem body_spec (i : grid2.Coords) {Φ : _ → sProp 𝕄} :
    iprop(start c T X qx ∗ (finish c T X qx -∗ Φ ⟨⟩)) ⊢
      wp frame (wpE defs₀ 𝒱 (c : Thread nD τ) bd) Set.univ
        (cc2__lambda_ (F := F) i (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2) Φ := by
  unfold start
  iintro ⟨⟨⟨Hs0, Hs1, Hs2⟩, ⟨Hx0, Hx1⟩, ⟨Hz0, Hz1, Hz2⟩, Htd, Ht, Ho⟩, Hk⟩
  ihave Hi := (issuing_none c T X qx 0) $$ [Hs0 Hx0]
  · isplitl [Hs0] <;> iassumption
  sl_unfold [cc2__lambda_]
  iapply (wp_into c)
  iapply (part10 c T X qx hT i)
  isplitl [Ht Hi]
  · isplitl [Ht] <;> iassumption
  iintro %r %hr Ht Hi
  obtain ⟨v1, v, hw⟩ := r
  iapply (wp_into c)
  iapply (part11 c T X qx hT i _ hw hr)
  isplitl [Ht Hi]
  · isplitl [Ht] <;> iassumption
  iintro %r %hr Ht Hi
  obtain ⟨v, hw⟩ := r
  iapply (wp_into c)
  iapply (part12 c T X qx hT i _ hw hr)
  isplitl [Ht Hi]
  · isplitl [Ht] <;> iassumption
  iintro %r %hr Ht Hi
  obtain ⟨v, hw⟩ := r
  iapply (wp_into c)
  iapply (part13 c T X qx hT i _ hw hr)
  isplitl [Ht Hi]
  · isplitl [Ht] <;> iassumption
  iintro %r %hr Ht Hi
  obtain ⟨v, hw⟩ := r
  iapply (wp_into c)
  iapply (part14 c T X qx hT i _ hw hr)
  isplitl [Ht Hi]
  · isplitl [Ht] <;> iassumption
  iintro %r %hr Ht Hi
  obtain ⟨v, hw⟩ := r
  iapply (wp_into c)
  iapply (part15 c T X qx hT i _ hw hr)
  isplitr [Hk]
  · isplitl [Ht]; · iexact Ht
    isplitl [Hi]; · iexact Hi
    isplitl [Hx1]; · iexact Hx1
    isplitl [Hs1 Hz1]
    · isplitl [Hs1] <;> iassumption
    isplitl [Hs2 Hz2]
    · isplitl [Hs2] <;> iassumption
    isplitl [Hz0]; · iexact Hz0
    isplitl [Htd] <;> iassumption
  iintro Hf
  sl_step
  iapply Hk $$ Hf

end Cert.Proof.Gather

end
-- ==== Proof.GatherWhole.lean ====
/-
  The gather kernel over whole buffers: from the table, the source and the result whole, the ring at any contents and the
  kernel's semaphores at zero, the body ends with the result holding, for each image and each place, the channel the table names.
-/
module

public import proofs.«01_k».proof.Proof.GatherBody
public import Idealize.ShloMosaic.Lib.Ring
public import Idealize.ShloMosaic.Lib.PageRing.Basic

@[expose] public section

noncomputable section

namespace Cert.Proof.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (T : Buf (Elt F) ((c : Thread nD τ).loc main_v28)) (X : Buf (Elt F) ((c : Thread nD τ).loc main_arg0))

/-! ## The result, block by block -/

theorem out_disj (a b : Fin 48) (h : a ≠ b) : Disjoint (outSet a.val) (outSet b.val) := by
  refine Finset.disjoint_left.mpr fun j hj hj' => h ?_
  simp only [outSet, Finset.mem_filter, Finset.mem_univ, true_and] at hj hj'
  apply Fin.ext; omega

theorem out_cover : Finset.univ.biUnion (fun a : Fin 48 => outSet a.val) = Finset.univ := by
  refine Finset.eq_univ_iff_forall.mpr fun j => ?_
  have h0 : (j 0).val < 4 := (j 0).isLt
  have h1 : (j 1).val < 192 := (j 1).isLt
  refine Finset.mem_biUnion.mpr ⟨⟨12 * (j 0).val + (j 1).val / 16, by omega⟩, Finset.mem_univ _, ?_⟩
  simp only [outSet, Finset.mem_filter, Finset.mem_univ, true_and]
  omega

theorem todo_of (f : Buf (Elt F) (outLoc c)) (j : Fin 48) :
    (outLoc c ↦[outSet j.val]{fullShare} f : sProp 𝕄) ⊢ if 0 ≤ j.val then outTodo c j.val else iprop(emp) := by
  rw [if_pos (Nat.zero_le _)]
  unfold outTodo
  iintro H; iexists f; iexact H

/-- The result whole at any contents is the forty-eight blocks to be written. -/
theorem todos_of (f : Buf (Elt F) (outLoc c)) : (outLoc c ↦{fullShare} f : sProp 𝕄) ⊢ todos c 0 := by
  rw [Ring.pointsTo_blocks (fun a : Fin 48 => outSet a.val) out_disj out_cover f]
  unfold todos
  exact bigSep_mono fun j _ => todo_of c f j

theorem done_to (j : Fin 48) :
    (if j.val + 2 < 50 then outDone c T X j.val else iprop(emp)) ⊢ (outLoc c ↦[outSet j.val]{fullShare} gathered c T X : sProp 𝕄) := by
  rw [if_pos (by have := j.isLt; omega)]
  exact .rfl

/-- The forty-eight blocks written are the result whole, gathered. -/
theorem dones_to : dones c T X 50 ⊢ (outLoc c ↦{fullShare} gathered c T X : sProp 𝕄) := by
  rw [Ring.pointsTo_blocks (fun a : Fin 48 => outSet a.val) out_disj out_cover (gathered c T X)]
  unfold dones
  exact bigSep_mono fun j _ => done_to c T X j

/-! ## The ring, slot by slot -/

theorem slot_disj (a b : Fin 3) (h : a ≠ b) : Disjoint (slotSet a.val) (slotSet b.val) := by
  refine Finset.disjoint_left.mpr fun j hj hj' => h ?_
  simp only [slotSet, Finset.mem_filter, Finset.mem_univ, true_and] at hj hj'
  apply Fin.ext; omega

theorem slot_cover : Finset.univ.biUnion (fun a : Fin 3 => slotSet a.val) = Finset.univ := by
  refine Finset.eq_univ_iff_forall.mpr fun j => ?_
  have h0 : (j 0).val < 3 := (j 0).isLt
  refine Finset.mem_biUnion.mpr ⟨⟨(j 0).val, h0⟩, Finset.mem_univ _, ?_⟩
  simp only [slotSet, Finset.mem_filter, Finset.mem_univ, true_and]

/-- The ring whole at any contents is its three slots; -/
theorem slots_of (f : Buf (Elt F) (ringLoc c)) :
    (ringLoc c ↦{fullShare} f : sProp 𝕄) ⊢ iprop(slotFree c 0 ∗ slotFree c 1 ∗ slotFree c 2) := by
  rw [Ring.pointsTo_blocks (fun a : Fin 3 => slotSet a.val) slot_disj slot_cover f, Ring.bigSep_fin3]
  unfold slotFree
  iintro ⟨H0, H1, H2⟩
  isplitl [H0]; · iexists f; iexact H0
  isplitl [H1]; · iexists f; iexact H1
  iexists f; iexact H2

/-- and its three slots are the ring whole. -/
theorem slots_to (f₀ : Buf (Elt F) (ringLoc c)) :
    iprop(slotFree c 0 ∗ slotFree c 1 ∗ slotFree c 2) ⊢ (iprop(∃ f, ringLoc c ↦{fullShare} f) : sProp 𝕄) := by
  refine BI.BIBase.Entails.trans ?_ (Ring.pointsTo_blocks_join_exists (fun a : Fin 3 => slotSet a.val) slot_disj slot_cover f₀)
  rw [Ring.bigSep_fin3]
  exact .rfl

/-! ## The kernel's semaphores and the shares of the source -/

/-- The kernel's own semaphores: sixteen for each side of the incoming copies, three for the outgoing ones. -/
abbrev osem2 : (Fin 16 ⊕ Fin 16) ⊕ Fin 3 → SemLoc sig := fun
  | .inl (.inl i) => .dma (inSem 0 i.val)
  | .inl (.inr i) => .dma (inSem 1 i.val)
  | .inr i => .dma (outSem i.val)

theorem ownSemFacts2 : Pipeline.OwnSemFacts spec2 osem2 := by decide +kernel

/-- The shares of the source the thirty-two copies read with. -/
def toks (a : ℕ) : sProp 𝕄 := bigSep (Finset.range 16) fun i => xLoc c ↦{Transfers.shareTokN fullShare (16 * a + i)} X

/-- The source whole is the shares of both sides and what is left. -/
theorem toks_of : (xLoc c ↦{fullShare} X : sProp 𝕄)
    ⊣⊢ iprop((xLoc c ↦{Transfers.shareDrop fullShare 32} X) ∗ toks c X 0 ∗ toks c X 1) := by
  have h := Transfers.pointsTo_toks_range (Ix := Unit) (Name := ℕ) (U := Pipeline.UD sig nD τ) (Lvl := ℕ) (ℓ := xLoc c)
    (S := Finset.univ) (f := X) fullShare 32
  have e := PageRing.bigSep_range_add (F := F) (U := Pipeline.UD sig nD τ) (Lvl := ℕ) (fun i => (xLoc c ↦{Transfers.shareTokN fullShare i} X : sProp 𝕄)) 16 16
  unfold toks
  rw [show (fun i => (xLoc c ↦{Transfers.shareTokN fullShare (16 * 0 + i)} X : sProp 𝕄)) = fun i => xLoc c ↦{Transfers.shareTokN fullShare i} X from
    funext fun i => by rw [Nat.mul_zero, Nat.zero_add]]
  rw [show (32 : ℕ) = 16 + 16 from rfl, e] at h
  exact h

theorem sides_eq (a : Fin 2) : (sides c X fullShare a.val : sProp 𝕄)
    = iprop(toks c X a.val ∗ bigSep Finset.univ fun i : Fin 16 => semVal ((c : Thread nD τ), .dma (inSem a.val i.val)) 0) := by
  have hm : a.val % 2 = a.val := Nat.mod_eq_of_lt a.isLt
  have e := Ring.bigSep_fin_eq_range 16 (fun i : Fin 16 => (xLoc c ↦{tok fullShare a.val i.val} X : sProp 𝕄))
    (fun i => xLoc c ↦{Transfers.shareTokN fullShare (16 * a.val + i)} X) (fun t h => by unfold tok; rw [hm])
  unfold sides sideFree toks
  rw [bigSep_sep', e]

theorem ownSems_eq : (Pipeline.ownSems0 (Ix := Unit) (Name := ℕ) (U := Pipeline.UD sig nD τ) (Lvl := ℕ) (Val := Elt F) (τ := τ) osem2 c : sProp 𝕄)
    = iprop(((bigSep Finset.univ fun i : Fin 16 => semVal ((c : Thread nD τ), .dma (inSem 0 i.val)) 0)
        ∗ (bigSep Finset.univ fun i : Fin 16 => semVal ((c : Thread nD τ), .dma (inSem 1 i.val)) 0))
      ∗ (outZero c 0 ∗ outZero c 1 ∗ outZero c 2)) := by
  unfold Pipeline.ownSems0
  rw [bigSep_univ_sum, bigSep_univ_sum, Ring.bigSep_fin3]
  rfl

/-! ## The body -/

variable {𝒱 : Variants} {bd : Option 𝒱.V}

/-- What the kernel holds beside the result. -/
def besides : sProp 𝕄 :=
  iprop((∃ f, ringLoc c ↦{fullShare} f) ∗ Pipeline.ownSems0 (Ix := Unit) (Name := ℕ) (U := Pipeline.UD sig nD τ) (Lvl := ℕ) (Val := Elt F) (τ := τ) osem2 c
    ∗ (xLoc c ↦{fullShare} X) ∗ tbl c T fullShare ∗ owesAny c)

theorem start_of : iprop((∃ f, outLoc c ↦{fullShare} f) ∗ besides c T X)
    ⊢ iprop(start c T X fullShare ∗ (xLoc c ↦{Transfers.shareDrop fullShare 32} X)) := by
  unfold besides start
  rw [ownSems_eq]
  have e0 := sides_eq (F := F) c X 0
  have e1 := sides_eq (F := F) c X 1
  rw [show ((0 : Fin 2)).val = 0 from rfl] at e0
  rw [show ((1 : Fin 2)).val = 1 from rfl] at e1
  rw [e0, e1]
  iintro ⟨⟨%f, Ho⟩, ⟨%g, Hr⟩, ⟨⟨Hs0, Hs1⟩, Hz⟩, Hx, Ht, HO⟩
  ihave Ho' := (todos_of c f) $$ Ho
  ihave Hr' := (slots_of c g) $$ Hr
  ihave Hx' := (toks_of c X).1 $$ Hx
  icases Hx' with ⟨Hd, Ht0, Ht1⟩
  isplitr [Hd]
  · isplitl [Hr']; · iexact Hr'
    isplitl [Hs0 Hs1 Ht0 Ht1]
    · isplitl [Hs0 Ht0]
      · isplitl [Ht0]; · iexact Ht0
        iexact Hs0
      isplitl [Ht1]; · iexact Ht1
      iexact Hs1
    isplitl [Hz]; · iexact Hz
    isplitl [Ho']; · iexact Ho'
    isplitl [Ht]; · iexact Ht
    iexact HO
  iexact Hd

theorem finish_to (f₀ : Buf (Elt F) (ringLoc c)) : iprop(finish c T X fullShare ∗ (xLoc c ↦{Transfers.shareDrop fullShare 32} X))
    ⊢ iprop((outLoc c ↦{fullShare} gathered c T X) ∗ besides c T X) := by
  unfold besides finish
  rw [ownSems_eq]
  have e0 := sides_eq (F := F) c X 0
  have e1 := sides_eq (F := F) c X 1
  rw [show ((0 : Fin 2)).val = 0 from rfl] at e0
  rw [show ((1 : Fin 2)).val = 1 from rfl] at e1
  rw [e0, e1]
  iintro ⟨⟨Hr, ⟨⟨Ht0, Hs0⟩, ⟨Ht1, Hs1⟩⟩, Hz, Ho, Ht, HO⟩, Hd⟩
  ihave Ho' := (dones_to c T X) $$ Ho
  ihave Hr' := (slots_to c f₀) $$ Hr
  ihave Hx' := (toks_of c X).2 $$ [Hd Ht0 Ht1]
  · isplitl [Hd]; · iexact Hd
    isplitl [Ht0]; · iexact Ht0
    iexact Ht1
  isplitl [Ho']; · iexact Ho'
  isplitl [Hr']; · iexact Hr'
  isplitl [Hs0 Hs1 Hz]
  · isplitl [Hs0 Hs1]
    · isplitl [Hs0]; · iexact Hs0
      iexact Hs1
    iexact Hz
  isplitl [Hx']; · iexact Hx'
  isplitl [Ht]; · iexact Ht
  iexact HO

/-- The gather kernel: with every word of the table naming a channel, the result ends gathered and everything else as it was. -/
theorem whole_spec (f₀ : Buf (Elt F) (ringLoc c)) (hT : ∀ b j, (word c T b j).toNat < 384) (i : grid2.Coords) :
    iprop((∃ f, outLoc c ↦{fullShare} f) ∗ besides c T X) ⊢ wp frame (wpE defs₀ 𝒱 (c : Thread nD τ) bd) Set.univ
      (cc2__lambda_ i (Memref.whole main_v28) (Memref.isWhole_whole _) (Memref.whole main_arg0) (Memref.isWhole_whole _)
        (Memref.whole main_v29) (Memref.isWhole_whole _) (Memref.whole cc2_scratch0) (Memref.isWhole_whole _) cc2_scratch1 cc2_scratch2)
      (fun _ => iprop((outLoc c ↦{fullShare} gathered c T X) ∗ besides c T X)) := by
  refine (start_of c T X).trans ?_
  iintro ⟨Hs, Hd⟩
  iapply (body_spec c T X fullShare hT i)
  isplitl [Hs]; · iexact Hs
  iintro Hf
  iapply (finish_to c T X f₀)
  isplitl [Hf]; · iexact Hf
  iexact Hd

end Cert.Proof.Gather

end
-- ==== Proof.RunData.lean ====
/-
  The proof data of the three kernels: from the unscoped buffers' contents at each kernel's entry, what its windows fetch,
  what its body leaves in them, and what it holds besides. Then each body's obligation.
-/
module

public import proofs.«01_k».proof.Proof.PoolBody
public import proofs.«01_k».proof.Proof.RankBody
public import proofs.«01_k».proof.Proof.GatherWhole
public import proofs.«01_k».proof.Proof.Gen.KernelIdeal.Points

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Gather (gathered word besides osem2 ownSemFacts2 ringLoc outLoc xLoc tbl owesAny)

variable {F : FTy → Type} [FloatOps F]

local notation "𝕄" => MT nD τ sig Unit (Elt F) ℕ (Pipeline.UD sig nD τ) ℕ

/-! ## The pool -/

section Pool

variable (V : Valuation τ sig (Elt F))

/-- The block of the source that point `t` fetches. -/
def xBlock (t : Fin cfg0.N) : S1x64x224x224.Idx → Elt F .f32 := ((cfg0.win 0).blk t).view.read (Elt F) (V main_arg0)

/-- The pool's data: the source's window holds its block, the result's the block's means. -/
def dat0 (c : Dev nD) : Dat τ (Elt F) Unit ℕ (Pipeline.UD sig nD τ) ℕ cfg0 c where
  A := fun w => V (Proc.devRef .tc (Pipeline.arrRef spec0 w))
  after := fun
    | ⟨0, _⟩ => fun t => xBlock V t
    | ⟨1, _⟩ => fun t => k0_pay1 (xBlock V t)
    | ⟨_ + 2, h⟩ => absurd h (Nat.not_lt.2 (Nat.le_add_left _ _))
  Φ := fun _ => Pipeline.scopedRest spec0 c
  q := fun _ => fullShare
  owed := fun _ => 0

/-- The pool's body meets its data at every point. -/
theorem body0 (c : Dev nD) : BodyObligation (dat0 V c) (defs₀ (F := F)) Variants.none () Set.univ := fun t => by
  have h0 : ∀ d, (dat0 V c).before 0 t d = xBlock V t := fun d => (dat0 V c).before_fetched 0 t (fetch0_0 t) d
  have hb : defs₀ (F := F) .tc cfg0.body (cfg0.bodyArgs t (cfg0.slots t)) = bodyAt0 t := by
    unfold defs₀; rw [Defs.onTc_tc]
  rw [bigSep_W0, bigSep_W0, hb, show (dat0 V c).Φ t.succ = (dat0 V c).Φ t.castSucc from rfl,
    show (dat0 V c).owesAt () t.succ = (dat0 V c).owesAt () t.castSucc from rfl]
  iintro ⟨HΦ, HO, ⟨%d0, H0⟩, ⟨%d1, H1⟩⟩
  rw [h0]
  iapply (Pool.body_spec c (grid0.coords t) _ _ _ _ (xBlock V t) _)
  isplitl [H0]; · iexact H0
  isplitl [H1]; · iexact H1
  iintro ⟨H0, H1⟩
  isplitl [HΦ]; · iexact HΦ
  isplitl [HO]; · iexact HO
  isplitl [H0]; · iexact H0
  iexact H1

end Pool

/-! ## The ranks -/

section Ranks

variable (V : Valuation τ sig (Elt F))

/-- The ranks, as the kernel fetches them. -/
def rBlock (t : Fin cfg1.N) : S4x384.Idx → Elt F .f32 := ((cfg1.win 0).blk t).view.read (Elt F) (V main_v25)
/-- The ranks transposed, as the kernel fetches them. -/
def rtBlock (t : Fin cfg1.N) : S384x4.Idx → Elt F .f32 := ((cfg1.win 1).blk t).view.read (Elt F) (V main_v26)

/-- The ranking kernel's data. -/
def dat1 (c : Dev nD) : Dat τ (Elt F) Unit ℕ (Pipeline.UD sig nD τ) ℕ cfg1 c where
  A := fun w => V (Proc.devRef .tc (Pipeline.arrRef spec1 w))
  after := fun
    | ⟨0, _⟩ => fun t => rBlock V t
    | ⟨1, _⟩ => fun t => rtBlock V t
    | ⟨2, _⟩ => fun t => Rank.places (rBlock V t) (rtBlock V t)
    | ⟨_ + 3, h⟩ => absurd h (Nat.not_lt.2 (Nat.le_add_left _ _))
  Φ := fun _ => Pipeline.scopedRest spec1 c
  q := fun _ => fullShare
  owed := fun _ => 0

/-- The ranking body meets its data. -/
theorem body1 (c : Dev nD) : BodyObligation (dat1 V c) (defs₀ (F := F)) Variants.none () Set.univ := fun t => by
  have h0 : ∀ d, (dat1 V c).before 0 t d = rBlock V t := fun d => (dat1 V c).before_fetched 0 t (fetch1_0 t) d
  have h1 : ∀ d, (dat1 V c).before 1 t d = rtBlock V t := fun d => (dat1 V c).before_fetched 1 t (fetch1_1 t) d
  have hb : defs₀ (F := F) .tc cfg1.body (cfg1.bodyArgs t (cfg1.slots t)) = bodyAt1 t := by
    unfold defs₀; rw [Defs.onTc_tc]
  rw [bigSep_W1, bigSep_W1, hb, show (dat1 V c).Φ t.succ = (dat1 V c).Φ t.castSucc from rfl,
    show (dat1 V c).owesAt () t.succ = (dat1 V c).owesAt () t.castSucc from rfl]
  iintro ⟨HΦ, HO, ⟨%d0, H0⟩, ⟨%d1, H1⟩, ⟨%d2, H2⟩⟩
  rw [h0, h1]
  have e2 : Rank.places (rBlock V t) (rtBlock V t) = (dat1 V c).after 2 t := by dsimp only [dat1]
  iapply (Rank.body_spec c _ _ _ _ _ _ (rBlock V t) (rtBlock V t) _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  rw [e2]
  iexact H2

end Ranks

/-! ## The gather -/

section Gather

variable (V : Valuation τ sig (Elt F))

/-- The table's contents as the pipeline's admissible ones. -/
def tables : (pcfg2 (F := F)).Adm := ⟨fun | ⟨0, _⟩ => V main_v28 | ⟨_ + 1, h⟩ => absurd h (Nat.not_lt.2 (Nat.le_add_left _ _)), trivial⟩

/-- What the gather holds besides its result and what it owes: the ring, its semaphores, the source and the table, and how
    the ring goes back among the scoped buffers. -/
def kept2 (c : Dev nD) : sProp 𝕄 :=
  iprop((∃ f, ringLoc c ↦{fullShare} f) ∗ Pipeline.ownSems0 (Ix := Unit) (Name := ℕ) (U := Pipeline.UD sig nD τ) (Lvl := ℕ) (Val := Elt F) (τ := τ) osem2 c
    ∗ (xLoc c ↦{fullShare} V main_arg0) ∗ tbl c (V main_v28) fullShare
    ∗ (iprop(∃ f : Buf (Elt F) (ringLoc c), ringLoc c ↦{fullShare} f) -∗ (Pipeline.scopedRest spec2 c : sProp 𝕄)))

/-- The gather's data: no window; the result at anything before the one point, gathered after it. -/
def dat2 (c : Dev nD) : Dat τ (Elt F) Unit ℕ (Pipeline.UD sig nD τ) ℕ (cfg2 (tables V)) c where
  A := fun w => w.elim0
  after := fun w => w.elim0
  Φ := fun t => iprop((if t.val = 0 then iprop(∃ f, outLoc c ↦{fullShare} f)
    else (outLoc c ↦{fullShare} gathered c (V main_v28) (V main_arg0))) ∗ kept2 V c)
  q := fun _ => fullShare
  owed := fun _ => 0

/-- The gather's body meets its data, the table's words being channels. -/
theorem body2 (c : Dev nD) (hT : ∀ b j, (word c (V main_v28) b j).toNat < 384) :
    BodyObligation (dat2 V c) (defs₀ (F := F)) Variants.none () Set.univ := fun t => by
  obtain rfl := fin_N2 t
  rw [show (Finset.univ : Finset (Fin (cfg2 (tables V)).W)) = ∅ from rfl, bigSep_empty, bigSep_empty]
  have e0 : (dat2 V c).Φ t2_0.castSucc = iprop((∃ f, outLoc c ↦{fullShare} f) ∗ kept2 V c) := by
    unfold dat2; exact congrArg (fun P => iprop(P ∗ kept2 V c)) (if_pos rfl)
  have e1 : (dat2 V c).Φ t2_0.succ = iprop((outLoc c ↦{fullShare} gathered c (V main_v28) (V main_arg0)) ∗ kept2 V c) := by
    unfold dat2; exact congrArg (fun P => iprop(P ∗ kept2 V c)) (if_neg Nat.one_ne_zero)
  have hb : defs₀ (F := F) .tc (cfg2 (tables V)).body ((cfg2 (tables V)).bodyArgs t2_0 ((cfg2 (tables V)).slots t2_0))
      = cc2__lambda_ (grid2.coords t2_0) (Memref.whole main_v28) (Memref.isWhole_whole _) (Memref.whole main_arg0) (Memref.isWhole_whole _)
          (Memref.whole main_v29) (Memref.isWhole_whole _) (Memref.whole cc2_scratch0) (Memref.isWhole_whole _) cc2_scratch1 cc2_scratch2 := by
    unfold defs₀; rw [Defs.onTc_tc]
  rw [e0, e1, hb]
  unfold kept2 Dat.owesAt Pipeline.owesWithin
  rw [show (dat2 V c).owed t2_0.castSucc = 0 from rfl, show (dat2 V c).owed t2_0.succ = 0 from rfl]
  iintro ⟨⟨⟨%f, Hout⟩, ⟨⟨%f₀, Hr⟩, Hs, Hx, Ht, Hk⟩⟩, ⟨%W, %hW, HO⟩, -⟩
  iapply (wp_wand_r frame (wpE (defs₀ (F := F)) Variants.none (c : Thread nD τ) none) Set.univ)
  isplitl [Hout Hr Hs Hx Ht HO]
  · iapply (Gather.whole_spec c (V main_v28) (V main_arg0) (𝒱 := Variants.none) (bd := none) f₀ hT (grid2.coords t2_0))
    isplitl [Hout]; · iexists f; iexact Hout
    unfold besides owesAny
    isplitl [Hr]; · iexists f₀; iexact Hr
    isplitl [Hs]; · iexact Hs
    isplitl [Hx]; · iexact Hx
    isplitl [Ht]; · iexact Ht
    iexists W; iexact HO
  unfold besides owesAny
  iintro %_ ⟨Hout, Hb⟩
  icases Hb with ⟨Hr, Hs, Hx, Ht, ⟨%W', HO⟩⟩
  isplitl [Hout Hr Hs Hx Ht Hk]
  · isplitl [Hout]; · iexact Hout
    isplitl [Hr]; · iexact Hr
    isplitl [Hs]; · iexact Hs
    isplitl [Hx]; · iexact Hx
    isplitl [Ht]; · iexact Ht
    iexact Hk
  isplitl [HO]
  · iexists W'; isplitr; · ipureintro; exact fun _ _ => Or.inl trivial
    iexact HO
  iempintro

end Gather

end Cert.Proof.Run

end
-- ==== Proof.RunRegions.lean ====
/-
  The three kernels as segments of the program: each is entered from every unscoped buffer held at a valuation and left
  with them held at the next.
-/
module

public import proofs.«01_k».proof.Proof.RunData
public import Idealize.ShloMosaic.Lib.Pipeline.RegionArraysS
public import Idealize.ShloMosaic.Lib.Pipeline.RegionArraysTS
public import Idealize.ShloMosaic.Lib.Pipeline.RegionArraysD

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation RegionSeg)
open Cert.Proof.Gather (gathered word besides osem2 ownSemFacts2 ringLoc outLoc xLoc tbl owesAny)

variable {F : FTy → Type} [FloatOps F]

local notation "𝕄" => MT nD τ sig Unit (Elt F) ℕ (Pipeline.UD sig nD τ) ℕ

variable (W0 W4 W6 : Dev nD → Valuation τ sig (Elt F))

/-- The prefetched tables' contents: the gather's alone has one. -/
def adm : (p : Fin 3) → (pcfgs (F := F) p).Adm
  | ⟨0, _⟩ => cfg0.toPCfg_adm
  | ⟨1, _⟩ => cfg1.toPCfg_adm
  | ⟨2, _⟩ => tables (W6 0)
  | ⟨_ + 3, h⟩ => absurd h (Nat.not_lt.2 (Nat.le_add_left _ _))

/-- The three kernels' data, at the valuations they are entered from. -/
def pdats : (p : Fin 3) → (c : Dev nD) → Dat τ (Elt F) Unit ℕ (Pipeline.UD sig nD τ) ℕ (Pipeline.pin (pcfgs (F := F)) (adm W6) p) c
  | ⟨0, _⟩ => fun c => dat0 (W0 c) c
  | ⟨1, _⟩ => fun c => dat1 (W4 c) c
  | ⟨2, _⟩ => fun c => dat2 (W6 0) c
  | ⟨_ + 3, h⟩ => absurd h (Nat.not_lt.2 (Nat.le_add_left _ _))

/-- One index at each TensorCore's semaphores. -/
def idx (g : GSem nD τ sig) : Finset Unit := if g.1.2 = .tc then {()} else ∅
/-- Every wait at level zero. -/
def lvl : GSem nD τ sig → Unit → ℕ := fun _ _ => 0

theorem cut (p : Fin 3) : Pipeline.LevelCut (pcfgs (F := F)) (adm W6) () idx lvl p (fun _ => 0) (fun _ => 0) where
  hι := fun c w s => by unfold idx; rw [if_pos rfl]; exact Finset.mem_singleton_self ()
  hιb := fun _ _ _ => le_rfl
  hD := fun _ _ _ h => absurd h (lt_irrefl 0)

theorem rest_enter (P : sProp 𝕄) : iprop(P ∗ emp) ⊢ P := by iintro ⟨H, -⟩; iexact H

theorem rest_leave (P : sProp 𝕄) : P ⊢ iprop(P ∗ emp) := by iintro H; isplitl [H]; (· iexact H); iempintro

theorem rest_widen (P Q : sProp 𝕄) : iprop(P ∗ Q) ⊢ iprop(P ∗ (Q ∗ emp ∗ emp)) := by
  iintro ⟨H, HO⟩
  isplitl [H]; · iexact H
  isplitl [HO]; · iexact HO
  isplitr <;> iempintro

/-- The pool as a segment. -/
def region0 : RegionSeg (pcfgs (F := F)) (adm W6) (pdats W0 W4 W6) () defs₀ Variants.none idx lvl 0 :=
  RegionSeg.ofHeldIn (pcfgs (F := F)) (adm W6) (pdats W0 W4 W6) () defs₀ Variants.none idx lvl 0 (fun _ => 0) (Pipeline.ucRefs τ sig)
    (fun _ => iprop(emp)) (fun _ => iprop(emp)) launch0 rfl (fun c => (body0 (W0 c) c).loose) (fun _ _ => rfl) (fun _ => rfl)
    (fun c => (dat0 (W0 c) c).share_full fun _ => rfl)
    (fun c => rest_enter (Pipeline.scopedRest spec0 c)) (fun c => rest_leave (Pipeline.scopedRest spec0 c))
    (fun _ => 0) (cut W6 0) (fun _ => iprop(emp)) W0 (fun _ _ => rfl)

/-- The ranking as a segment. -/
def region1 : RegionSeg (pcfgs (F := F)) (adm W6) (pdats W0 W4 W6) () defs₀ Variants.none idx lvl 1 :=
  RegionSeg.ofHeldIn (pcfgs (F := F)) (adm W6) (pdats W0 W4 W6) () defs₀ Variants.none idx lvl 1 (fun _ => 0) (Pipeline.ucRefs τ sig)
    (fun _ => iprop(emp)) (fun _ => iprop(emp)) launch1 rfl (fun c => (body1 (W4 c) c).loose) (fun _ _ => rfl) (fun _ => rfl)
    (fun c => (dat1 (W4 c) c).share_full fun _ => rfl)
    (fun c => rest_enter (Pipeline.scopedRest spec1 c)) (fun c => rest_leave (Pipeline.scopedRest spec1 c))
    (fun _ => 0) (cut W6 1) (fun _ => iprop(emp)) W4 (fun _ _ => rfl)

/-- What rides along every segment: the core owes nothing. -/
def rest (c : Dev nD) : sProp 𝕄 := iprop(∃ W, owes (c : Thread nD τ) 0 W)

theorem region0_pre (c : Dev nD) :
    iprop(StableHlo.held (c : Thread nD τ) (Pipeline.ucRefs τ sig) (W0 c) ∗ rest c) ⊢ (region0 W0 W4 W6).pre c := by
  unfold region0 rest
  refine (rest_widen _ _).trans (RegionSeg.ofHeldIn_pre (pcs := pcfgs (F := F)) (a := adm W6) (pdats := pdats W0 W4 W6) (p := 0)
    (S := Pipeline.ucRefs τ sig) (W := W0) (D := fun _ => 0) (X := fun _ => iprop(emp)) (Y := fun _ => iprop(emp)) (R := fun _ => iprop(emp))
    (Pipeline.arrRefs_sub_ucRefs spec0 (by decide)) c)

theorem region0_post (c : Dev nD) :
    (region0 W0 W4 W6).post c ⊢ iprop(StableHlo.held (c : Thread nD τ) (Pipeline.ucRefs τ sig) (Pipeline.afterRegion (dat0 (W0 c) c) (W0 c)) ∗ rest c) := by
  unfold region0 rest
  refine (RegionSeg.ofHeldIn_post (pcs := pcfgs (F := F)) (a := adm W6) (pdats := pdats W0 W4 W6) (p := 0)
    (S := Pipeline.ucRefs τ sig) (W := W0) (D := fun _ => 0) (X := fun _ => iprop(emp)) (Y := fun _ => iprop(emp)) (R := fun _ => iprop(emp))
    (Pipeline.arrRefs_sub_ucRefs spec0 (by decide)) c).trans ?_
  iintro ⟨H, HO, -⟩
  isplitl [H]; · iexact H
  iexact HO

theorem region1_pre (c : Dev nD) :
    iprop(StableHlo.held (c : Thread nD τ) (Pipeline.ucRefs τ sig) (W4 c) ∗ rest c) ⊢ (region1 W0 W4 W6).pre c := by
  unfold region1 rest
  refine (rest_widen _ _).trans (RegionSeg.ofHeldIn_pre (pcs := pcfgs (F := F)) (a := adm W6) (pdats := pdats W0 W4 W6) (p := 1)
    (S := Pipeline.ucRefs τ sig) (W := W4) (D := fun _ => 0) (X := fun _ => iprop(emp)) (Y := fun _ => iprop(emp)) (R := fun _ => iprop(emp))
    (Pipeline.arrRefs_sub_ucRefs spec1 (by decide)) c)

theorem region1_post (c : Dev nD) :
    (region1 W0 W4 W6).post c ⊢ iprop(StableHlo.held (c : Thread nD τ) (Pipeline.ucRefs τ sig) (Pipeline.afterRegion (dat1 (W4 c) c) (W4 c)) ∗ rest c) := by
  unfold region1 rest
  refine (RegionSeg.ofHeldIn_post (pcs := pcfgs (F := F)) (a := adm W6) (pdats := pdats W0 W4 W6) (p := 1)
    (S := Pipeline.ucRefs τ sig) (W := W4) (D := fun _ => 0) (X := fun _ => iprop(emp)) (Y := fun _ => iprop(emp)) (R := fun _ => iprop(emp))
    (Pipeline.arrRefs_sub_ucRefs spec1 (by decide)) c).trans ?_
  iintro ⟨H, HO, -⟩
  isplitl [H]; · iexact H
  iexact HO

/-! ## The gather -/

/-- The buffers the gather touches. -/
def refs2 : Finset (Ref sig .tc) := {main_v28, main_arg0, main_v29}

/-- What the gather leaves: its result, all else as it was. -/
def afterGather (V : Valuation τ sig (Elt F)) (c : Dev nD) : Valuation τ sig (Elt F) :=
  Function.update V main_v29 (gathered c (V main_v28) (V main_arg0))

theorem held_refs2 (c : Dev nD) (V : Valuation τ sig (Elt F)) :
    (StableHlo.held (c : Thread nD τ) (Pipeline.hbmRefs refs2) V : sProp 𝕄)
      = iprop(tbl c (V main_v28) fullShare ∗ (xLoc c ↦{fullShare} V main_arg0) ∗ (outLoc c ↦{fullShare} V main_v29)) := by
  rw [Pipeline.held_hbm]
  unfold refs2
  rw [bigSep_insert (by decide), bigSep_insert (by decide), bigSep_singleton]
  rfl

theorem refs2_sub : Pipeline.hbmRefs (τ := τ) refs2 ⊆ Pipeline.ucRefs τ sig :=
  Pipeline.hbmRefs_sub_ucRefs refs2 (by decide)

/-- The unscoped buffers but the three the gather touches are the same after it. -/
theorem held_other (c : Dev nD) (V : Valuation τ sig (Elt F)) :
    (StableHlo.held (c : Thread nD τ) (Pipeline.ucRefs τ sig \ Pipeline.hbmRefs refs2) V : sProp 𝕄)
      = StableHlo.held (c : Thread nD τ) (Pipeline.ucRefs τ sig \ Pipeline.hbmRefs refs2) (afterGather V c) :=
  StableHlo.held_congr (c : Thread nD τ) fun b hb => by
    unfold afterGather
    rw [Function.update_of_ne]
    rintro rfl
    exact (Finset.mem_sdiff.mp hb).2 (Finset.mem_map.mpr ⟨main_v29, by decide, rfl⟩)

theorem held_afterGather (c : Dev nD) (V : Valuation τ sig (Elt F)) :
    (StableHlo.held (c : Thread nD τ) (Pipeline.ucRefs τ sig) (afterGather V c) : sProp 𝕄)
      = iprop((tbl c (V main_v28) fullShare ∗ (xLoc c ↦{fullShare} V main_arg0) ∗ (outLoc c ↦{fullShare} gathered c (V main_v28) (V main_arg0)))
          ∗ StableHlo.held (c : Thread nD τ) (Pipeline.ucRefs τ sig \ Pipeline.hbmRefs refs2) V) := by
  rw [StableHlo.held_sub_split (c : Thread nD τ) refs2_sub, ← held_other, held_refs2]
  unfold afterGather
  rw [Function.update_self, Function.update_of_ne (by decide), Function.update_of_ne (by decide)]

/-- The ring out of the scoped buffers no window stages, and back. -/
theorem ring_split (c : Dev nD) :
    (Pipeline.scopedRest spec2 c : sProp 𝕄) ⊢ iprop((∃ f, ringLoc c ↦{fullShare} f)
      ∗ (iprop(∃ f : Buf (Elt F) (ringLoc c), ringLoc c ↦{fullShare} f) -∗ (Pipeline.scopedRest spec2 c : sProp 𝕄))) := by
  rw [scopedRest2_eq]
  iintro ⟨H1, H2, H3, H4, H5, H6, H7, H8⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The semaphores the gather owns, at zero. -/
abbrev ownSems2 (c : Dev nD) : sProp 𝕄 :=
  Pipeline.ownSems0 (Ix := Unit) (Name := ℕ) (U := Pipeline.UD sig nD τ) (Lvl := ℕ) (Val := Elt F) (τ := τ) osem2 c

/-- The one table, held whole. -/
theorem prefHeld_tbl (c : Dev nD) (V : Valuation τ sig (Elt F)) :
    (Pipeline.prefHeld pre2 c (fun _ => fullShare) (tables V).1 : sProp 𝕄) = tbl c (V main_v28) fullShare := by
  unfold Pipeline.prefHeld
  rw [show (Finset.univ : Finset (Fin pre2.K)) = {0} from rfl, bigSep_singleton]
  rfl

/-- The gather's invariant before its point. -/
theorem phi2_zero (V : Valuation τ sig (Elt F)) (c : Dev nD) : (dat2 V c).Φ 0 = iprop((∃ f, outLoc c ↦{fullShare} f) ∗ kept2 V c) := by
  unfold dat2; exact congrArg (fun P => iprop(P ∗ kept2 V c)) (if_pos rfl)

/-- The gather's invariant after its point. -/
theorem phi2_last (V : Valuation τ sig (Elt F)) (c : Dev nD) :
    (dat2 V c).Φ (Fin.last (cfg2 (tables V)).N) = iprop((outLoc c ↦{fullShare} gathered c (V main_v28) (V main_arg0)) ∗ kept2 V c) := by
  unfold dat2; exact congrArg (fun P => iprop(P ∗ kept2 V c)) (if_neg Nat.one_ne_zero)

theorem arrays2 (V : Valuation τ sig (Elt F)) (c : Dev nD) (G) : (dat2 V c).arrays G = (iprop(emp) : sProp 𝕄) := by
  unfold Dat.arrays
  rw [show (Finset.univ : Finset (Fin (cfg2 (tables V)).W)) = ∅ from rfl, bigSep_empty]
  rfl

/-- What enters the gather besides its table. -/
def enters2 (V : Valuation τ sig (Elt F)) (c : Dev nD) : sProp 𝕄 :=
  iprop((xLoc c ↦{fullShare} V main_arg0) ∗ (∃ f, outLoc c ↦{fullShare} f) ∗ ownSems2 c)

/-- What leaves the gather. -/
def leaves2 (V : Valuation τ sig (Elt F)) (c : Dev nD) : sProp 𝕄 :=
  iprop(tbl c (V main_v28) fullShare ∗ (xLoc c ↦{fullShare} V main_arg0) ∗ (outLoc c ↦{fullShare} gathered c (V main_v28) (V main_arg0)))

theorem entry2 (V : Valuation τ sig (Elt F)) (c : Dev nD) (P : sProp 𝕄) :
    iprop(iprop(StableHlo.held (c : Thread nD τ) (Pipeline.ucRefs τ sig) V ∗ rest c) ∗ ownSems2 c ∗ P)
    ⊢ |={Set.univ}=> iprop((dat2 V c).arrays ((dat2 V c).arrAt · 0) ∗ Pipeline.prefHeld pre2 c (fun _ => fullShare) (tables V).1
        ∗ (dat2 V c).owesAt () 0 ∗ enters2 V c ∗ StableHlo.held (c : Thread nD τ) (Pipeline.ucRefs τ sig \ Pipeline.hbmRefs refs2) V) := by
  rw [StableHlo.held_sub_split (c : Thread nD τ) refs2_sub, held_refs2, arrays2, prefHeld_tbl]
  unfold rest enters2 Dat.owesAt Pipeline.owesWithin
  rw [show (dat2 V c).owed 0 = 0 from rfl]
  iintro ⟨⟨⟨⟨Ht, Hx, Ho⟩, Hr⟩, ⟨%W, HO⟩⟩, Hs, -⟩
  imodintro
  isplitr; · iempintro
  isplitl [Ht]; · iexact Ht
  isplitl [HO]
  · iexists W
    isplitr
    · ipureintro; exact fun _ _ => Or.inl trivial
    iexact HO
  isplitl [Hx Ho Hs]
  · isplitl [Hx]; · iexact Hx
    isplitl [Ho]; · iexists _; iexact Ho
    iexact Hs
  iexact Hr

theorem in2 (V : Valuation τ sig (Elt F)) (c : Dev nD) :
    iprop(enters2 V c ∗ Pipeline.prefHeld pre2 c (fun _ => fullShare) (tables V).1 ∗ Pipeline.scopedRest spec2 c) ⊢ (dat2 V c).Φ 0 := by
  rw [phi2_zero, prefHeld_tbl]
  unfold enters2 kept2
  iintro ⟨⟨Hx, Ho, Hs⟩, Ht, Hr⟩
  ihave Hr := (ring_split c) $$ Hr
  icases Hr with ⟨Hr, Hk⟩
  isplitl [Ho]; · iexact Ho
  isplitl [Hr]; · iexact Hr
  isplitl [Hs]; · iexact Hs
  isplitl [Hx]; · iexact Hx
  isplitl [Ht]; · iexact Ht
  iexact Hk

theorem out2 (V : Valuation τ sig (Elt F)) (c : Dev nD) :
    (dat2 V c).Φ (Fin.last (cfg2 (tables V)).N) ⊢ iprop(leaves2 V c ∗ ownSems2 c ∗ Pipeline.scopedRest spec2 c) := by
  rw [phi2_last]
  unfold leaves2 kept2
  iintro ⟨Ho, Hr, Hs, Hx, Ht, Hk⟩
  isplitl [Ho Hx Ht]
  · isplitl [Ht]; · iexact Ht
    isplitl [Hx]; · iexact Hx
    iexact Ho
  isplitl [Hs]; · iexact Hs
  iapply Hk
  iexact Hr

theorem exit2 (V : Valuation τ sig (Elt F)) (c : Dev nD) :
    iprop((dat2 V c).arrays ((dat2 V c).arrAt · (cfg2 (tables V)).N) ∗ (dat2 V c).owesAt () (Fin.last (cfg2 (tables V)).N) ∗ leaves2 V c
      ∗ StableHlo.held (c : Thread nD τ) (Pipeline.ucRefs τ sig \ Pipeline.hbmRefs refs2) V)
    ⊢ |={Set.univ}=> iprop(StableHlo.held (c : Thread nD τ) (Pipeline.ucRefs τ sig) (afterGather V c) ∗ rest c) := by
  rw [arrays2, held_afterGather]
  unfold rest leaves2 Dat.owesAt Pipeline.owesWithin
  rw [show (dat2 V c).owed (Fin.last (cfg2 (tables V)).N) = 0 from rfl]
  iintro ⟨-, ⟨%W, -, HO⟩, Hl, Hr⟩
  imodintro
  isplitr [HO]
  · isplitl [Hl]; · iexact Hl
    iexact Hr
  iexists W; iexact HO

/-- The gather as a segment, the words of the table being channels. -/
def region2 (hT : ∀ c b j, (word c (W6 0 main_v28) b j).toNat < 384) :
    RegionSeg (pcfgs (F := F)) (adm W6) (pdats W0 W4 W6) () defs₀ Variants.none idx lvl 2 where
  win := winFacts2.to₀
  block_pos := block_pos2
  stage_whole := stage_whole2
  K := (Fin 16 ⊕ Fin 16) ⊕ Fin 3
  osem := osem2
  ho := ownSemFacts2
  hbody := fun c => (body2 (W6 0) c (hT c)).loose
  hwaits := Pipeline.hwaits_of_owed_zero (pcfgs (F := F)) (adm W6) (pdats W0 W4 W6) () idx lvl 2 fun _ _ => rfl
  pre := fun c => iprop(StableHlo.held (c : Thread nD τ) (Pipeline.ucRefs τ sig) (W6 0) ∗ rest c)
  post := fun c => iprop(StableHlo.held (c : Thread nD τ) (Pipeline.ucRefs τ sig) (afterGather (W6 0) c) ∗ rest c)
  X := enters2 (W6 0)
  Y := leaves2 (W6 0)
  Z := fun c => StableHlo.held (c : Thread nD τ) (Pipeline.ucRefs τ sig \ Pipeline.hbmRefs refs2) (W6 0)
  hentry := fun c => entry2 (W6 0) c _
  hin := fun c => in2 (W6 0) c
  hout := fun c => out2 (W6 0) c
  hexit := fun c => exit2 (W6 0) c

end Cert.Proof.Run

end
-- ==== Proof.Run.lean ====
/-
  The kernel's run: from any memory with zero counters, the ranking's table naming channels, every execution ends with
  the result at what the three kernels and the host operations between them compute, the arguments unchanged and every
  counter at zero.
-/
module

public import proofs.«01_k».proof.Proof.RunRegions
public import proofs.«01_k».proof.Proof.Gen.KernelIdeal.Regions

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Proof.Gather (gathered word)

variable {F : FTy → Type} [FloatOps F]

local notation "𝕄" => MT nD τ sig Unit (Elt F) ℕ (Pipeline.UD sig nD τ) ℕ

variable (m : (ℓ : Loc nD τ sig) → Buf (Elt F) ℓ)

/-- At launch. -/
def U0 (c : Dev nD) : Valuation τ sig (Elt F) := fun b => m (c, b)
/-- After the pool. -/
def U1 (c : Dev nD) : Valuation τ sig (Elt F) := Pipeline.afterRegion (dat0 (U0 m c) c) (U0 m c)
/-- After the host operations up to the padding. -/
def U2 (c : Dev nD) : Valuation τ sig (Elt F) := StableHlo.after hostOps1 (U1 m c)
/-- After the padding. -/
def U3 (c : Dev nD) : Valuation τ sig (Elt F) := StableHlo.after hostOps1_1 (U2 m c)
/-- After the convolution and the sigmoid. -/
def U4 (c : Dev nD) : Valuation τ sig (Elt F) := StableHlo.after hostOps1_2 (U3 m c)
/-- After the ranking. -/
def U5 (c : Dev nD) : Valuation τ sig (Elt F) := Pipeline.afterRegion (dat1 (U4 m c) c) (U4 m c)
/-- After the table's transpose. -/
def U6 (c : Dev nD) : Valuation τ sig (Elt F) := StableHlo.after hostOps2 (U5 m c)
/-- At the end. -/
def U7 (c : Dev nD) : Valuation τ sig (Elt F) := afterGather (U6 m c) c

/-- The pool changes its own result alone. -/
theorem U1_of (c : Dev nD) (r : Ref sig .tc) (h : r ≠ main_v0) : U1 m c r = U0 m c r := by
  refine Pipeline.afterRegion_keeps (dat0 (U0 m c) c) (U0 m c) winFacts0.arr_inj (fun _ => rfl) r fun w hw => ?_
  fin_cases w
  · rfl
  · exact (h hw.symm).elim

theorem U2_of (c : Dev nD) (r : Ref sig .tc) (h : r ∉ hostOps1_W) : U2 m c r = U1 m c r :=
  StableHlo.after_of_writes_sub hostOps1 _ hostOps1_writes h

theorem U3_of (c : Dev nD) (r : Ref sig .tc) (h : r ∉ hostOps1_1_W) : U3 m c r = U2 m c r :=
  StableHlo.after_of_writes_sub hostOps1_1 _ hostOps1_1_writes h

theorem U4_of (c : Dev nD) (r : Ref sig .tc) (h : r ∉ hostOps1_2_W) : U4 m c r = U3 m c r :=
  StableHlo.after_of_writes_sub hostOps1_2 _ hostOps1_2_writes h

/-- The ranking changes its own result alone. -/
theorem U5_of (c : Dev nD) (r : Ref sig .tc) (h : r ≠ main_v27) : U5 m c r = U4 m c r := by
  refine Pipeline.afterRegion_keeps (dat1 (U4 m c) c) (U4 m c) winFacts1.arr_inj (fun _ => rfl) r fun w hw => ?_
  fin_cases w
  · rfl
  · rfl
  · exact (h hw.symm).elim

theorem U6_of (c : Dev nD) (r : Ref sig .tc) (h : r ∉ hostOps2_W) : U6 m c r = U5 m c r :=
  StableHlo.after_of_writes_sub hostOps2 _ hostOps2_writes h

theorem U7_of (c : Dev nD) (r : Ref sig .tc) (h : r ≠ main_v29) : U7 m c r = U6 m c r :=
  Function.update_of_ne (fun e => h (Proc.devRef_injective .tc e)) _ _

theorem U6_arg0 (c : Dev nD) : U6 m c main_arg0 = U0 m c main_arg0 :=
  (U6_of m c main_arg0 (by decide)).trans <| (U5_of m c main_arg0 (by decide)).trans <| (U4_of m c main_arg0 (by decide)).trans <|
    (U3_of m c main_arg0 (by decide)).trans <| (U2_of m c main_arg0 (by decide)).trans (U1_of m c main_arg0 (by decide))

theorem U6_arg1 (c : Dev nD) : U6 m c main_arg1 = U0 m c main_arg1 :=
  (U6_of m c main_arg1 (by decide)).trans <| (U5_of m c main_arg1 (by decide)).trans <| (U4_of m c main_arg1 (by decide)).trans <|
    (U3_of m c main_arg1 (by decide)).trans <| (U2_of m c main_arg1 (by decide)).trans (U1_of m c main_arg1 (by decide))

/-- The host operations up to the padding, as a segment. -/
def host1 : HostSeg (Ix := Unit) (Name := ℕ) (U := Pipeline.UD sig nD τ) (Lvl := ℕ) (pcfgs (F := F)) defs₀ Variants.none idx lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) rest
/-- The padding, as a segment. -/
def host2 : HostSeg (Ix := Unit) (Name := ℕ) (U := Pipeline.UD sig nD τ) (Lvl := ℕ) (pcfgs (F := F)) defs₀ Variants.none idx lvl :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (U2 m) rest
/-- The convolution and the sigmoid, as a segment. -/
def host3 : HostSeg (Ix := Unit) (Name := ℕ) (U := Pipeline.UD sig nD τ) (Lvl := ℕ) (pcfgs (F := F)) defs₀ Variants.none idx lvl :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (U3 m) rest
/-- The table's transpose, as a segment. -/
def host5 : HostSeg (Ix := Unit) (Name := ℕ) (U := Pipeline.UD sig nD τ) (Lvl := ℕ) (pcfgs (F := F)) defs₀ Variants.none idx lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U5 m) rest

variable (hT : ∀ c b j, (word c (U6 m 0 main_v28) b j).toNat < 384)

/-- The program's segments in order. -/
abbrev segments (c : Dev nD) : List (Seg (pcfgs (F := F)) (adm (U6 m)) (pdats (U0 m) (U4 m) (U6 m)) () defs₀ Variants.none idx lvl) :=
  [.region (region0 (U0 m) (U4 m) (U6 m)), .host (host1 m), .host (host2 m), .host (host3 m), .region (region1 (U0 m) (U4 m) (U6 m)),
    .host (host5 m), .region (region2 (U0 m) (U4 m) (U6 m) hT)]

/-- The launch's pipeline rounds. -/
def u₀ : Pipeline.UD sig nD τ :=
  (initOf (Pipeline.cells (Pipeline.pin (pcfgs (F := F)) (adm (U6 m))) (cellOf_inj (adm (U6 m))))
    (Pipeline.launchToks (Pipeline.pin (pcfgs (F := F)) (adm (U6 m))) (cellOf_inj (adm (U6 m)))), 1)

theorem region2_pre (c : Dev nD) :
    iprop(StableHlo.held (c : Thread nD τ) (Pipeline.ucRefs τ sig) (U6 m c) ∗ rest c) ⊢ (region2 (U0 m) (U4 m) (U6 m) hT).pre c := by
  obtain rfl : c = 0 := Subsingleton.elim c 0
  exact .rfl

theorem region2_post (c : Dev nD) :
    (region2 (U0 m) (U4 m) (U6 m) hT).post c ⊢ iprop(StableHlo.held (c : Thread nD τ) (Pipeline.ucRefs τ sig) (U7 m c) ∗ rest c) := by
  obtain rfl : c = 0 := Subsingleton.elim c 0
  exact .rfl

theorem host1_pre (c : Dev nD) : (host1 m).pre c = iprop(StableHlo.held (c : Thread nD τ) (Pipeline.ucRefs τ sig) (U1 m c) ∗ rest c) := rfl
theorem host3_post (c : Dev nD) : (host3 m).post c = iprop(StableHlo.held (c : Thread nD τ) (Pipeline.ucRefs τ sig) (U4 m c) ∗ rest c) := rfl
theorem host5_pre (c : Dev nD) : (host5 m).pre c = iprop(StableHlo.held (c : Thread nD τ) (Pipeline.ucRefs τ sig) (U5 m c) ∗ rest c) := rfl
theorem host5_post (c : Dev nD) : (host5 m).post c = iprop(StableHlo.held (c : Thread nD τ) (Pipeline.ucRefs τ sig) (U6 m c) ∗ rest c) := rfl

theorem link01 (c : Dev nD) : (region0 (U0 m) (U4 m) (U6 m)).post c ⊢ (host1 m).pre c := by
  rw [host1_pre]; unfold U1; exact region0_post _ _ _ c
theorem link12 (c : Dev nD) : (host1 m).post c ⊢ (host2 m).pre c := .rfl
theorem link23 (c : Dev nD) : (host2 m).post c ⊢ (host3 m).pre c := .rfl
theorem link34 (c : Dev nD) : (host3 m).post c ⊢ (region1 (U0 m) (U4 m) (U6 m)).pre c := by
  rw [host3_post]; exact region1_pre _ _ _ c
theorem link45 (c : Dev nD) : (region1 (U0 m) (U4 m) (U6 m)).post c ⊢ (host5 m).pre c := by
  rw [host5_pre]; unfold U5; exact region1_post _ _ _ c
theorem link56 (c : Dev nD) : (host5 m).post c ⊢ (region2 (U0 m) (U4 m) (U6 m) hT).pre c := by
  rw [host5_post]; exact region2_pre m hT c

/-- What holds at launch and what holds at the end. -/
def atLaunch (c : Dev nD) : sProp 𝕄 := iprop(StableHlo.held (c : Thread nD τ) (Pipeline.ucRefs τ sig) (U0 m c) ∗ rest c)
def atEnd (c : Dev nD) : sProp 𝕄 := StableHlo.held (c : Thread nD τ) (Pipeline.ucRefs τ sig) (U7 m c)

theorem link0 (c : Dev nD) : atLaunch m c ⊢ (region0 (U0 m) (U4 m) (U6 m)).pre c := by
  unfold atLaunch; exact region0_pre _ _ _ c
theorem link7 (c : Dev nD) : (region2 (U0 m) (U4 m) (U6 m) hT).post c ⊢ iprop(atEnd m c ∗ ∃ W, owes (c : Thread nD τ) (0 : CellTallies nD τ sig Unit) W) := by
  unfold atEnd; exact region2_post m hT c

/-- The segments chain. -/
theorem chains (c : Dev nD) : Seg.ChainsAt c (atLaunch m) (segments m hT c)
    fun c => iprop(atEnd m c ∗ ∃ W, owes (c : Thread nD τ) (0 : CellTallies nD τ sig Unit) W) :=
  ⟨link0 m c, link01 m c, link12 m c, link23 m c, link34 m c, link45 m c, link56 m hT c, link7 m hT c⟩

include hT in
set_option backward.isDefEq.respectTransparency.types false in
/-- Every execution from memory `m` with zero counters terminates, the result at `U7`'s, the arguments as launched and
    every counter at zero, the ranking's words being channels. -/
theorem run_main (ρ : Dev nD → PrngReg) :
    θ_run defs (onTc (τ := τ) (main (F := F))) ⟨m, fun _ => 0, ρ⟩ (fun r => (∀ c : Dev nD,
      r.2.mem ((c.tc : Thread nD τ).loc main_v29) = U7 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) (adm (U6 m)) (pdats (U0 m) (U4 m) (U6 m)) () (cellOf_inj (adm (U6 m)))
    (embL : Emb _ 𝕄) defs₀ Variants.none idx lvl m ρ main (segments m hT)
    (fun c Q => by
      rewrite [main_chain c, Seg.run_eq_chain,
        show (segments m hT c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segments, Seg.pipes_host, Seg.pipes_region, Seg.pipes_nil]; decide)
    (O₀ := 0) (hL := fun g hg => if_neg hg) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := atLaunch m) (Tₙ := atEnd m) (hch := chains m hT)
    (hinit := by
      refine Pipeline.initEach idx lvl fun c => ?_
      rw [show unscopedBufs c (fun b => m ((c : Thread nD τ).loc b)) = StableHlo.held (c : Thread nD τ) (Pipeline.ucRefs τ sig) (U0 m c) from
        Pipeline.unscopedBufs_held c (U0 m c)]
      unfold atLaunch rest
      iintro ⟨⟨Hh, -, HO, -, -, -⟩, -⟩
      imodintro
      isplitl [Hh]; · iexact Hh
      iexists ∅; iexact HO)
    (QY := fun c s => s.mem ((c.tc : Thread nD τ).loc main_v29) = U7 m c main_v29
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  unfold atEnd StableHlo.held
  iintro ⟨Hh, HSI⟩
  ihave Hr := (pointsTo_read_all (Pipeline.ucRefs τ sig) (fun b => ((c : Thread nD τ).1, b)) (U7 m c) s') $$ [Hh HSI]
  · isplitl [Hh] <;> iassumption
  icases Hr with ⟨%h, HSI⟩
  imodintro
  isplitr
  · ipureintro
    exact ⟨h (Proc.devRef .tc main_v29) (Finset.mem_filter.mpr ⟨StableHlo.devRef_mem_tcRefs main_v29, by decide⟩),
      (h (Proc.devRef .tc main_arg0) (Finset.mem_filter.mpr ⟨StableHlo.devRef_mem_tcRefs main_arg0, by decide⟩)).trans
        ((U7_of m c main_arg0 (by decide)).trans (U6_arg0 m c)),
      (h (Proc.devRef .tc main_arg1) (Finset.mem_filter.mpr ⟨StableHlo.devRef_mem_tcRefs main_arg1, by decide⟩)).trans
        ((U7_of m c main_arg1 (by decide)).trans (U6_arg1 m c))⟩
  · iexact HSI

end Cert.Proof.Run

end
-- ==== Proof.Ref.lean ====
/-
  The reference's run: its operations in three stretches (the negated scores; their argsort and its first places; the
  channels taken at them), and what each stretch leaves, for any float values.
-/
module

public import Idealize.ShloMosaic.Lib.StableHlo.Run
public import Idealize.ShloMosaic.Lib.Pipeline.Frame
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Up to the negated scores. -/
abbrev opsA : List (HloOp τ sig (Elt F)) :=
  [ nullary main_cst (constant S_ .f32 0x00000000#32),
    binary main_arg0 main_cst main_v0 ((fun x v => Host.reduceAdd x v reducesTo_S4x384x224x224_S4x384_d2_3 h_S_) : (⟨S4x384x224x224, .f32⟩ : BufTy).Contents (Elt F) → (⟨S_, .f32⟩ : BufTy).Contents (Elt F) → (⟨S4x384, .f32⟩ : BufTy).Contents (Elt F)),
    nullary main_cst_0 (constant S_ .f32 0x47440000#32),
    unary main_cst_0 main_v1 (broadcastInDim S4x384 ![] bcast_S_S4x384 : (⟨S_, .f32⟩ : BufTy).Contents (Elt F) → (⟨S4x384, .f32⟩ : BufTy).Contents (Elt F)),
    binary main_v0 main_v1 main_v2 (Host.divf : (⟨S4x384, .f32⟩ : BufTy).Contents (Elt F) → (⟨S4x384, .f32⟩ : BufTy).Contents (Elt F) → (⟨S4x384, .f32⟩ : BufTy).Contents (Elt F)),
    nullary main_c (constantI S_ 32 0#32),
    TRef.unary (.of main_c : TRef sig ⟨S_, .i32⟩) (.of main_call0_v0 : TRef sig ⟨S_, .f32⟩) (sitofp .f32),
    TRef.binary (.of main_v2 : TRef sig ⟨S4x384, .f32⟩) (.of main_call0_v0 : TRef sig ⟨S_, .f32⟩) (.of main_v3 : TRef sig ⟨S4x386, .f32⟩) (fun x v => pad S4x386 ![0, 1] ![0, 1] ![0, 0] x v pads_S4x384_S4x386_000_110 h_S_),
    unary main_arg1 main_v4 ((extractStridedSlice S1 ![0] · slices_S3_S1_0) : (⟨S3, .f32⟩ : BufTy).Contents (Elt F) → (⟨S1, .f32⟩ : BufTy).Contents (Elt F)),
    reshape main_v4 main_v5 (rfl : (.f32 : EltTy) = .f32) shapeCasts_S1_S_,
    unary main_v3 main_v6 ((extractStridedSlice S4x384 ![0, 0] · slices_S4x386_S4x384_0_0) : (⟨S4x386, .f32⟩ : BufTy).Contents (Elt F) → (⟨S4x384, .f32⟩ : BufTy).Contents (Elt F)),
    unary main_v5 main_v7 (broadcastInDim S4x384 ![] bcast_S_S4x384 : (⟨S_, .f32⟩ : BufTy).Contents (Elt F) → (⟨S4x384, .f32⟩ : BufTy).Contents (Elt F)),
    binary main_v7 main_v6 main_v8 (mulf : (⟨S4x384, .f32⟩ : BufTy).Contents (Elt F) → (⟨S4x384, .f32⟩ : BufTy).Contents (Elt F) → (⟨S4x384, .f32⟩ : BufTy).Contents (Elt F)),
    unary main_arg1 main_v9 ((extractStridedSlice S1 ![1] · slices_S3_S1_1) : (⟨S3, .f32⟩ : BufTy).Contents (Elt F) → (⟨S1, .f32⟩ : BufTy).Contents (Elt F)),
    reshape main_v9 main_v10 (rfl : (.f32 : EltTy) = .f32) shapeCasts_S1_S_,
    unary main_v3 main_v11 ((extractStridedSlice S4x384 ![0, 1] · slices_S4x386_S4x384_0_1) : (⟨S4x386, .f32⟩ : BufTy).Contents (Elt F) → (⟨S4x384, .f32⟩ : BufTy).Contents (Elt F)),
    unary main_v10 main_v12 (broadcastInDim S4x384 ![] bcast_S_S4x384 : (⟨S_, .f32⟩ : BufTy).Contents (Elt F) → (⟨S4x384, .f32⟩ : BufTy).Contents (Elt F)),
    binary main_v12 main_v11 main_v13 (mulf : (⟨S4x384, .f32⟩ : BufTy).Contents (Elt F) → (⟨S4x384, .f32⟩ : BufTy).Contents (Elt F) → (⟨S4x384, .f32⟩ : BufTy).Contents (Elt F)),
    binary main_v8 main_v13 main_v14 (addf : (⟨S4x384, .f32⟩ : BufTy).Contents (Elt F) → (⟨S4x384, .f32⟩ : BufTy).Contents (Elt F) → (⟨S4x384, .f32⟩ : BufTy).Contents (Elt F)),
    unary main_arg1 main_v15 ((extractStridedSlice S1 ![2] · slices_S3_S1_2) : (⟨S3, .f32⟩ : BufTy).Contents (Elt F) → (⟨S1, .f32⟩ : BufTy).Contents (Elt F)),
    reshape main_v15 main_v16 (rfl : (.f32 : EltTy) = .f32) shapeCasts_S1_S_,
    unary main_v3 main_v17 ((extractStridedSlice S4x384 ![0, 2] · slices_S4x386_S4x384_0_2) : (⟨S4x386, .f32⟩ : BufTy).Contents (Elt F) → (⟨S4x384, .f32⟩ : BufTy).Contents (Elt F)),
    unary main_v16 main_v18 (broadcastInDim S4x384 ![] bcast_S_S4x384 : (⟨S_, .f32⟩ : BufTy).Contents (Elt F) → (⟨S4x384, .f32⟩ : BufTy).Contents (Elt F)),
    binary main_v18 main_v17 main_v19 (mulf : (⟨S4x384, .f32⟩ : BufTy).Contents (Elt F) → (⟨S4x384, .f32⟩ : BufTy).Contents (Elt F) → (⟨S4x384, .f32⟩ : BufTy).Contents (Elt F)),
    binary main_v14 main_v19 main_v20 (addf : (⟨S4x384, .f32⟩ : BufTy).Contents (Elt F) → (⟨S4x384, .f32⟩ : BufTy).Contents (Elt F) → (⟨S4x384, .f32⟩ : BufTy).Contents (Elt F)),
    unary main_v20 main_v21 (Host.negf : (⟨S4x384, .f32⟩ : BufTy).Contents (Elt F) → (⟨S4x384, .f32⟩ : BufTy).Contents (Elt F)),
    unary main_v21 main_v22 (Host.exp : (⟨S4x384, .f32⟩ : BufTy).Contents (Elt F) → (⟨S4x384, .f32⟩ : BufTy).Contents (Elt F)),
    nullary main_cst_1 (constant S_ .f32 0x3F800000#32),
    unary main_cst_1 main_v23 (broadcastInDim S4x384 ![] bcast_S_S4x384 : (⟨S_, .f32⟩ : BufTy).Contents (Elt F) → (⟨S4x384, .f32⟩ : BufTy).Contents (Elt F)),
    binary main_v23 main_v22 main_v24 (addf : (⟨S4x384, .f32⟩ : BufTy).Contents (Elt F) → (⟨S4x384, .f32⟩ : BufTy).Contents (Elt F) → (⟨S4x384, .f32⟩ : BufTy).Contents (Elt F)),
    nullary main_cst_2 (constant S_ .f32 0x3F800000#32),
    unary main_cst_2 main_v25 (broadcastInDim S4x384 ![] bcast_S_S4x384 : (⟨S_, .f32⟩ : BufTy).Contents (Elt F) → (⟨S4x384, .f32⟩ : BufTy).Contents (Elt F)),
    binary main_v25 main_v24 main_v26 (Host.divf : (⟨S4x384, .f32⟩ : BufTy).Contents (Elt F) → (⟨S4x384, .f32⟩ : BufTy).Contents (Elt F) → (⟨S4x384, .f32⟩ : BufTy).Contents (Elt F)),
    unary main_v26 main_v27 (Host.negf : (⟨S4x384, .f32⟩ : BufTy).Contents (Elt F) → (⟨S4x384, .f32⟩ : BufTy).Contents (Elt F)) ]

/-- The argsort and its first places. -/
abbrev opsB : List (HloOp τ sig (Elt F)) :=
  [ TRef.nullary (.of main_call1_v0 : TRef sig ⟨S4x384, .i32⟩) (iotaInDim S4x384 32 1),
    TRef.binary (.of main_v27 : TRef sig ⟨S4x384, .f32⟩) (.of main_call1_v0 : TRef sig ⟨S4x384, .i32⟩) (.of main_call1_v1_0 : TRef sig ⟨S4x384, .f32⟩) (fun x y => (Host.sort2 S4x384 1 comparator_f32_i32_d1 x y).1),
    TRef.binary (.of main_v27 : TRef sig ⟨S4x384, .f32⟩) (.of main_call1_v0 : TRef sig ⟨S4x384, .i32⟩) (.of main_v28 : TRef sig ⟨S4x384, .i32⟩) (fun x y => (Host.sort2 S4x384 1 comparator_f32_i32_d1 x y).2),
    unary main_v28 main_v29 ((extractStridedSlice S4x192 ![0, 0] · slices_S4x384_S4x192_0_0) : (⟨S4x384, .i32⟩ : BufTy).Contents (Elt F) → (⟨S4x192, .i32⟩ : BufTy).Contents (Elt F)),
    unary main_v29 main_v30 (broadcastInDim S4x192x1x1 ![0, 1] bcast_S4x192_S4x192x1x1_0_1 : (⟨S4x192, .i32⟩ : BufTy).Contents (Elt F) → (⟨S4x192x1x1, .i32⟩ : BufTy).Contents (Elt F)) ]

/-- The channels taken. -/
abbrev opsC : List (HloOp τ sig (Elt F)) :=
  [ TRef.nullary (.of main_call2_c : TRef sig ⟨S_, .i32⟩) (constantI S_ 32 0#32),
    TRef.unary (.of main_call2_c : TRef sig ⟨S_, .i32⟩) (.of main_call2_v0 : TRef sig ⟨S4x192x1x1, .i32⟩) (broadcastInDim S4x192x1x1 ![] bcast_S_S4x192x1x1),
    TRef.binary (.of main_v30 : TRef sig ⟨S4x192x1x1, .i32⟩) (.of main_call2_v0 : TRef sig ⟨S4x192x1x1, .i32⟩) (.of main_call2_v1 : TRef sig ⟨S4x192x1x1, .i1⟩) (cmpi .slt),
    TRef.nullary (.of main_call2_c_0 : TRef sig ⟨S_, .i32⟩) (constantI S_ 32 384#32),
    TRef.unary (.of main_call2_c_0 : TRef sig ⟨S_, .i32⟩) (.of main_call2_v2 : TRef sig ⟨S4x192x1x1, .i32⟩) (broadcastInDim S4x192x1x1 ![] bcast_S_S4x192x1x1),
    TRef.binary (.of main_v30 : TRef sig ⟨S4x192x1x1, .i32⟩) (.of main_call2_v2 : TRef sig ⟨S4x192x1x1, .i32⟩) (.of main_call2_v3 : TRef sig ⟨S4x192x1x1, .i32⟩) addi,
    TRef.ternary (.of main_call2_v1 : TRef sig ⟨S4x192x1x1, .i1⟩) (.of main_call2_v3 : TRef sig ⟨S4x192x1x1, .i32⟩) (.of main_v30 : TRef sig ⟨S4x192x1x1, .i32⟩) (.of main_call2_v4 : TRef sig ⟨S4x192x1x1, .i32⟩) select,
    TRef.reshape (.of main_call2_v4 : TRef sig ⟨S4x192x1x1, .i32⟩) (.of main_call2_v5 : TRef sig ⟨S4x192x1, .i32⟩) (rfl : (.i32 : EltTy) = .i32) shapeCasts_S4x192x1x1_S4x192x1,
    TRef.nullary (.of main_call2_c_1 : TRef sig ⟨S1, .i32⟩) (constantI S1 32 383#32),
    TRef.nullary (.of main_call2_c_2 : TRef sig ⟨S_, .i32⟩) (constantI S_ 32 0#32),
    TRef.unary (.of main_call2_c_2 : TRef sig ⟨S_, .i32⟩) (.of main_call2_v6 : TRef sig ⟨S4x192x1, .i32⟩) (broadcastInDim S4x192x1 ![] bcast_S_S4x192x1),
    TRef.binary (.of main_call2_v5 : TRef sig ⟨S4x192x1, .i32⟩) (.of main_call2_v6 : TRef sig ⟨S4x192x1, .i32⟩) (.of main_call2_v7 : TRef sig ⟨S4x192x1, .i1⟩) (cmpi .sge),
    TRef.unary (.of main_call2_c_1 : TRef sig ⟨S1, .i32⟩) (.of main_call2_v8 : TRef sig ⟨S1x1x1, .i32⟩) (broadcastInDim S1x1x1 ![2] bcast_S1_S1x1x1_2),
    TRef.unary (.of main_call2_v8 : TRef sig ⟨S1x1x1, .i32⟩) (.of main_call2_v9 : TRef sig ⟨S4x192x1, .i32⟩) (broadcastInDim S4x192x1 ![0, 1, 2] bcast_S1x1x1_S4x192x1_0_1_2),
    TRef.binary (.of main_call2_v5 : TRef sig ⟨S4x192x1, .i32⟩) (.of main_call2_v9 : TRef sig ⟨S4x192x1, .i32⟩) (.of main_call2_v10 : TRef sig ⟨S4x192x1, .i1⟩) (cmpi .sle),
    TRef.binary (.of main_call2_v7 : TRef sig ⟨S4x192x1, .i1⟩) (.of main_call2_v10 : TRef sig ⟨S4x192x1, .i1⟩) (.of main_call2_v11 : TRef sig ⟨S4x192x1, .i1⟩) andi,
    TRef.nullary (.of main_call2_c_3 : TRef sig ⟨S_, .i1⟩) (constantI S_ 1 1#1),
    TRef.binary (.of main_call2_v11 : TRef sig ⟨S4x192x1, .i1⟩) (.of main_call2_c_3 : TRef sig ⟨S_, .i1⟩) (.of main_call2_v12 : TRef sig ⟨S4x192, .i1⟩) (fun x v => Host.reduce IntOp.andi x v reducesTo_S4x192x1_S4x192_d2 h_S_),
    TRef.binary (.of main_arg0 : TRef sig ⟨S4x384x224x224, .f32⟩) (.of main_call2_v5 : TRef sig ⟨S4x192x1, .i32⟩) (.of main_call2_v13 : TRef sig ⟨S4x192x224x224, .f32⟩) (fun x i => Host.gather gather_S4x384x224x224_S4x192x1_S4x192x224x224_23_1_0_0_1_2_11224224 x i),
    TRef.unary (.of main_call2_v12 : TRef sig ⟨S4x192, .i1⟩) (.of main_call2_v14 : TRef sig ⟨S4x192x224x224, .i1⟩) (broadcastInDim S4x192x224x224 ![0, 1] bcast_S4x192_S4x192x224x224_0_1),
    TRef.nullary (.of main_call2_cst : TRef sig ⟨S_, .f32⟩) (constant S_ .f32 0x7FC00000#32),
    TRef.unary (.of main_call2_cst : TRef sig ⟨S_, .f32⟩) (.of main_call2_v15 : TRef sig ⟨S4x192x224x224, .f32⟩) (broadcastInDim S4x192x224x224 ![] bcast_S_S4x192x224x224),
    TRef.ternary (.of main_call2_v14 : TRef sig ⟨S4x192x224x224, .i1⟩) (.of main_call2_v13 : TRef sig ⟨S4x192x224x224, .f32⟩) (.of main_call2_v15 : TRef sig ⟨S4x192x224x224, .f32⟩) (.of main_v31 : TRef sig ⟨S4x192x224x224, .f32⟩) select ]

/-- All of them. -/
abbrev ops : List (HloOp τ sig (Elt F)) := opsA ++ opsB ++ opsC

/-- @main is the straight line of them. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub ..⟩
theorem opsB_sub : (opsB : List (HloOp τ sig (Elt F))).Forall fun op => op.bufs ⊆ tcRefs τ sig :=
  ⟨nullary_bufs_sub .., binary_bufs_sub .., binary_bufs_sub .., unary_bufs_sub .., unary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation touches TensorCore references only. -/
theorem ops_sub : (ops : List (HloOp τ sig (Elt F))).Forall fun op => op.bufs ⊆ tcRefs τ sig :=
  List.forall_append.mpr ⟨List.forall_append.mpr ⟨opsA_sub, opsB_sub⟩, opsC_sub⟩

/-- The scores of pooled means `p` under the taps `w`: the padded three-tap convolution over the channels, through the
    sigmoid. -/
def scores (p : (⟨S4x384, .f32⟩ : BufTy).Contents (Elt F)) (w : (⟨S3, .f32⟩ : BufTy).Contents (Elt F)) :
    (⟨S4x384, .f32⟩ : BufTy).Contents (Elt F) :=
  let q : (⟨S4x386, .f32⟩ : BufTy).Contents (Elt F) :=
    pad S4x386 ![0, 1] ![0, 1] ![0, 0] p (sitofp .f32 (constantI S_ 32 0#32)) pads_S4x384_S4x386_000_110 h_S_
  let tap (v : (⟨S1, .f32⟩ : BufTy).Contents (Elt F)) : (⟨S4x384, .f32⟩ : BufTy).Contents (Elt F) :=
    broadcastInDim S4x384 ![] bcast_S_S4x384 (shapeCast S_ v shapeCasts_S1_S_)
  let one : (⟨S4x384, .f32⟩ : BufTy).Contents (Elt F) := broadcastInDim S4x384 ![] bcast_S_S4x384 (constant S_ .f32 0x3F800000#32)
  Host.divf one (addf one (Host.exp (Host.negf (addf (addf
    (mulf (tap (extractStridedSlice S1 ![0] w slices_S3_S1_0)) (extractStridedSlice S4x384 ![0, 0] q slices_S4x386_S4x384_0_0))
    (mulf (tap (extractStridedSlice S1 ![1] w slices_S3_S1_1)) (extractStridedSlice S4x384 ![0, 1] q slices_S4x386_S4x384_0_1)))
    (mulf (tap (extractStridedSlice S1 ![2] w slices_S3_S1_2)) (extractStridedSlice S4x384 ![0, 2] q slices_S4x386_S4x384_0_2))))))

/-- The pooled means. -/
def means (x : (⟨S4x384x224x224, .f32⟩ : BufTy).Contents (Elt F)) : (⟨S4x384, .f32⟩ : BufTy).Contents (Elt F) :=
  Host.divf (Host.reduceAdd x (constant S_ .f32 0x00000000#32) reducesTo_S4x384x224x224_S4x384_d2_3 h_S_)
    (broadcastInDim S4x384 ![] bcast_S_S4x384 (constant S_ .f32 0x47440000#32))

/-- The first places of the stable argsort of keys `k`. -/
def firsts (k : (⟨S4x384, .f32⟩ : BufTy).Contents (Elt F)) : (⟨S4x192, .i32⟩ : BufTy).Contents (Elt F) :=
  extractStridedSlice S4x192 ![0, 0] (Host.sort2 S4x384 1 comparator_f32_i32_d1 k (iotaInDim S4x384 32 1)).2 slices_S4x384_S4x192_0_0

/-- After the first stretch the negated scores are in `main_v27`. -/
theorem outA (V : Valuation τ sig (Elt F)) :
    after opsA V (main_v27 : DevRef τ sig) = Host.negf (scores (means (V (main_arg0 : DevRef τ sig))) (V (main_arg1 : DevRef τ sig))) := by
  after_results
  rfl

theorem argA0 (V : Valuation τ sig (Elt F)) : after opsA V (main_arg0 : DevRef τ sig) = V (main_arg0 : DevRef τ sig) := by
  after_results
theorem argA1 (V : Valuation τ sig (Elt F)) : after opsA V (main_arg1 : DevRef τ sig) = V (main_arg1 : DevRef τ sig) := by
  after_results

/-- After the second stretch the first places are in `main_v30`. -/
theorem outB (V : Valuation τ sig (Elt F)) :
    after opsB V (main_v30 : DevRef τ sig)
      = broadcastInDim S4x192x1x1 ![0, 1] bcast_S4x192_S4x192x1x1_0_1 (firsts (F := F) (V (main_v27 : DevRef τ sig))) := by
  after_results
  rfl

theorem argB0 (V : Valuation τ sig (Elt F)) : after opsB V (main_arg0 : DevRef τ sig) = V (main_arg0 : DevRef τ sig) := by
  after_results
theorem argB1 (V : Valuation τ sig (Elt F)) : after opsB V (main_arg1 : DevRef τ sig) = V (main_arg1 : DevRef τ sig) := by
  after_results

/-- The indices a take reads at: a negative one counts from the end. -/
def wrapped (i : (⟨S4x192x1x1, .i32⟩ : BufTy).Contents (Elt F)) : (⟨S4x192x1, .i32⟩ : BufTy).Contents (Elt F) :=
  shapeCast S4x192x1 (select (cmpi .slt i (broadcastInDim S4x192x1x1 ![] bcast_S_S4x192x1x1 (constantI S_ 32 0#32)))
    (addi i (broadcastInDim S4x192x1x1 ![] bcast_S_S4x192x1x1 (constantI S_ 32 384#32))) i) shapeCasts_S4x192x1x1_S4x192x1

/-- Whether an index is a channel. -/
def inside (i : (⟨S4x192x1, .i32⟩ : BufTy).Contents (Elt F)) : (⟨S4x192, .i1⟩ : BufTy).Contents (Elt F) :=
  Host.reduce IntOp.andi
    (andi (cmpi .sge i (broadcastInDim S4x192x1 ![] bcast_S_S4x192x1 (constantI S_ 32 0#32)))
      (cmpi .sle i (broadcastInDim S4x192x1 ![0, 1, 2] bcast_S1x1x1_S4x192x1_0_1_2
        (broadcastInDim S1x1x1 ![2] bcast_S1_S1x1x1_2 (constantI S1 32 383#32)))))
    (constantI S_ 1 1#1) reducesTo_S4x192x1_S4x192_d2 h_S_

/-- The channels of `x` at the indices `i`. -/
def taken (x : (⟨S4x384x224x224, .f32⟩ : BufTy).Contents (Elt F)) (i : (⟨S4x192x1x1, .i32⟩ : BufTy).Contents (Elt F)) :
    (⟨S4x192x224x224, .f32⟩ : BufTy).Contents (Elt F) :=
  select (broadcastInDim S4x192x224x224 ![0, 1] bcast_S4x192_S4x192x224x224_0_1 (inside (F := F) (wrapped (F := F) i)))
    (Host.gather gather_S4x384x224x224_S4x192x1_S4x192x224x224_23_1_0_0_1_2_11224224 x (wrapped (F := F) i))
    (broadcastInDim S4x192x224x224 ![] bcast_S_S4x192x224x224 (constant S_ .f32 0x7FC00000#32))

/-- After the third stretch the channels taken are in `main_v31`. -/
theorem outC (V : Valuation τ sig (Elt F)) :
    after opsC V (main_v31 : DevRef τ sig) = taken (V (main_arg0 : DevRef τ sig)) (V (main_v30 : DevRef τ sig)) := by
  after_results
  rfl

theorem argC0 (V : Valuation τ sig (Elt F)) : after opsC V (main_arg0 : DevRef τ sig) = V (main_arg0 : DevRef τ sig) := by
  after_results
theorem argC1 (V : Valuation τ sig (Elt F)) : after opsC V (main_arg1 : DevRef τ sig) = V (main_arg1 : DevRef τ sig) := by
  after_results

/-- The reference's result. -/
def result (x : (⟨S4x384x224x224, .f32⟩ : BufTy).Contents (Elt F)) (w : (⟨S3, .f32⟩ : BufTy).Contents (Elt F)) :
    (⟨S4x192x224x224, .f32⟩ : BufTy).Contents (Elt F) :=
  taken x (broadcastInDim S4x192x1x1 ![0, 1] bcast_S4x192_S4x192x1x1_0_1 (firsts (F := F) (Host.negf (scores (means x) w))))

theorem after_ops (V : Valuation τ sig (Elt F)) : after ops V = after opsC (after opsB (after opsA V)) := by
  unfold ops
  rw [Idealize.ShloMosaic.StableHlo.after_append, Idealize.ShloMosaic.StableHlo.after_append]

theorem out_eq (V : Valuation τ sig (Elt F)) :
    after ops V (main_v31 : DevRef τ sig) = result (V (main_arg0 : DevRef τ sig)) (V (main_arg1 : DevRef τ sig)) := by
  rw [after_ops, outC, outB, outA, argB0, argA0]
  rfl

theorem arg0_eq (V : Valuation τ sig (Elt F)) : after ops V (main_arg0 : DevRef τ sig) = V (main_arg0 : DevRef τ sig) := by
  rw [after_ops, argC0, argB0, argA0]
theorem arg1_eq (V : Valuation τ sig (Elt F)) : after ops V (main_arg1 : DevRef τ sig) = V (main_arg1 : DevRef τ sig) := by
  rw [after_ops, argC1, argB1, argA1]

/-- For any float values, from any memory with zero counters: every execution of @main terminates, the result buffer at
    the reference's value of the arguments, the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v31)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v31).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.HostValue.lean ====
/-
  What the kernel's host operations compute from the pool's result: the scores, as the reference computes them of the
  same means, the scores' transpose, and after the ranking the table's transpose.
-/
module

public import proofs.«01_k».proof.Proof.Run
public import proofs.«01_k».proof.Proof.Ref

@[expose] public section

noncomputable section

namespace Cert.Proof.Run

open Cert.KernelIdeal Cert.KernelIdeal.Gen
open Idealize.ShloMosaic Idealize.ShloMosaic.TcCoe Idealize.ShloMosaic.StableHlo

variable {F : FTy → Type} [FloatOps F]

theorem host1_v1 (V : Valuation τ sig (Elt F)) :
    after hostOps1 V (main_v1 : DevRef τ sig) = shapeCast S4x384 (V (main_v0 : DevRef τ sig)) shapeCasts_S24x1x64_S4x384 := by
  after_results
  rfl

theorem host1_c (V : Valuation τ sig (Elt F)) : after hostOps1 V (main_c : DevRef τ sig) = constantI S_ 32 0#32 := by
  after_results

theorem host2_v2 (V : Valuation τ sig (Elt F)) :
    after hostOps1_1 V (main_v2 : DevRef τ sig) = (pad S4x386 ![0, 1] ![0, 1] ![0, 0] (V (main_v1 : DevRef τ sig))
      (sitofp .f32 (V (main_c : DevRef τ sig))) pads_S4x384_S4x386_000_110 h_S_ : (⟨S4x386, .f32⟩ : BufTy).Contents (Elt F)) := by
  after_results
  rfl

/-- The convolution's and the sigmoid's value of the padded means. -/
theorem host3_v25 (V : Valuation τ sig (Elt F)) (p : (⟨S4x384, .f32⟩ : BufTy).Contents (Elt F))
    (h : V (main_v2 : DevRef τ sig) = (pad S4x386 ![0, 1] ![0, 1] ![0, 0] p
      (sitofp .f32 (constantI S_ 32 0#32)) pads_S4x384_S4x386_000_110 h_S_ : (⟨S4x386, .f32⟩ : BufTy).Contents (Elt F))) :
    after hostOps1_2 V (main_v25 : DevRef τ sig) = Ref.scores p (V (main_arg1 : DevRef τ sig)) := by
  after_results
  rw [h]
  rfl

theorem host3_v26 (V : Valuation τ sig (Elt F)) :
    after hostOps1_2 V (main_v26 : DevRef τ sig)
      = transpose S384x4 [1, 0] (after hostOps1_2 V (main_v25 : DevRef τ sig)) transposes_S4x384_S384x4_1_0 := by
  after_results

theorem host5_v28 (V : Valuation τ sig (Elt F)) :
    after hostOps2 V (main_v28 : DevRef τ sig) = transpose S4x192 [1, 0] (V (main_v27 : DevRef τ sig)) transposes_S192x4_S4x192_1_0 := by
  after_results

variable (m : (ℓ : Loc nD τ sig) → Buf (Elt F) ℓ)

/-- The kernel's pooled means, as the host operations read them. -/
def pooled (c : Dev nD) : (⟨S4x384, .f32⟩ : BufTy).Contents (Elt F) := shapeCast S4x384 (U1 m c main_v0) shapeCasts_S24x1x64_S4x384

theorem U4_v25 (c : Dev nD) : U4 m c main_v25 = Ref.scores (pooled m c) (U0 m c main_arg1) := by
  have h : U3 m c main_v2 = (pad S4x386 ![0, 1] ![0, 1] ![0, 0] (pooled m c)
      (sitofp .f32 (constantI S_ 32 0#32)) pads_S4x384_S4x386_000_110 h_S_ : (⟨S4x386, .f32⟩ : BufTy).Contents (Elt F)) := by
    unfold U3
    rw [host2_v2]
    unfold U2 pooled
    rw [host1_v1, host1_c]
  have e1 : U3 m c main_arg1 = U0 m c main_arg1 :=
    (U3_of m c main_arg1 (by decide)).trans <| (U2_of m c main_arg1 (by decide)).trans (U1_of m c main_arg1 (by decide))
  rw [← e1]
  unfold U4
  exact host3_v25 _ _ h

theorem U4_v26 (c : Dev nD) : U4 m c main_v26 = transpose S384x4 [1, 0] (U4 m c main_v25) transposes_S4x384_S384x4_1_0 := by
  unfold U4
  exact host3_v26 _

theorem U6_v28 (c : Dev nD) : U6 m c main_v28 = transpose S4x192 [1, 0] (U5 m c main_v27) transposes_S192x4_S4x192_1_0 := by
  unfold U6
  exact host5_v28 _

end Cert.Proof.Run

end
-- ==== Proof.PoolValue.lean ====
/-
  The pool's result: its array holds at row `6 b + i`, lane `l` the mean of channel `64 i + l` of image `b`, so that
  read as `[4, 384]` it is the reference's means of the source.
-/
module

public import proofs.«01_k».proof.Proof.HostValue
public import Idealize.ShloMosaic.Lib.Pointwise
public import Idealize.ShloMosaic.Lib.Pipeline.Value

@[expose] public section

noncomputable section

namespace Cert.Proof.Pool

open Cert.KernelIdeal Cert.KernelIdeal.Gen
open Idealize.ShloMosaic Idealize.ShloMosaic.TcCoe Idealize.ShloMosaic.StableHlo

/-- One block's mean of a lane: the sum over its rows and columns over their number. -/
theorem pay_apply (v : S1x64x224x224.Idx → Elt Ideal .f32) (a : Fin 1) (b : Fin 1) (l : Fin 64) :
    k0_pay1 (F := Ideal) v (ix3 a b l)
      = Ideal.div (∑ h : Fin 224, ∑ w : Fin 224, v (ix4 0 l h w)) (Ideal.ofBits .f32 0x47440000#32) := by
  pointwise [k0_pay1]

/-- The reference's mean of a channel. -/
theorem means_apply (v : S4x384x224x224.Idx → Elt Ideal .f32) (b : Fin 4) (l : Fin 384) :
    Ref.means (F := Ideal) v (ix2 b l)
      = Ideal.div (∑ h : Fin 224, ∑ w : Fin 224, v (ix4 b l h w)) (Ideal.ofBits .f32 0x47440000#32) := by
  pointwise [Ref.means]

/-- The pool's result as `[4, 384]`, at an index. -/
theorem rows_apply (v : S24x1x64.Idx → Elt Ideal .f32) (b : Fin 4) (l : Fin 384) :
    shapeCast S4x384 v shapeCasts_S24x1x64_S4x384 (ix2 b l)
      = v (ix3 (⟨b * 6 + l / 64, by omega⟩) 0 ⟨l % 64, by omega⟩) := by
  pointwise []

/-- The grid's points by number: which block of the source, which row of the result. -/
theorem index0 : ∀ t : Fin cfg0.N, (win0_0.index t 0 = t.val / 6 ∧ win0_0.index t 1 = t.val % 6) ∧
    (win0_0.index t 2 = 0 ∧ win0_0.index t 3 = 0) :=
  (by decide +kernel : ∀ t : Fin grid0.N, _)

theorem index1 : ∀ t : Fin cfg0.N, win0_1.index t 0 = t.val ∧ win0_1.index t 1 = 0 ∧ win0_1.index t 2 = 0 :=
  (by decide +kernel : ∀ t : Fin grid0.N, _)

/-- The row of means that a row number's block gives. -/
def rowsOf (x : S4x384x224x224.Idx → Elt Ideal .f32) : S24x1x64.Idx → Elt Ideal .f32 := fun i =>
  Ref.means (F := Ideal) x (ix2 (⟨(i 0).val / 6, by have h : (i 0).val < 24 := (i 0).isLt; omega⟩ : Fin 4)
    (⟨64 * ((i 0).val % 6) + (i 2).val, by have h : (i 2).val < 64 := (i 2).isLt; omega⟩ : Fin 384))

theorem emb0 (t : Fin cfg0.N) (l : Fin 64) (h w : Fin 224) :
    ((cfg0.win 0).blk t).view.emb (ix4 (0 : Fin 1) l h w)
      = ix4 (⟨t.val / 6, by have : t.val < 24 := t.isLt; omega⟩ : Fin 4) (⟨64 * (t.val % 6) + l.val, by omega⟩ : Fin 384) h w := by
  obtain ⟨⟨e0, e1⟩, e2, e3⟩ := index0 t
  funext a; apply Fin.ext
  match a with
  | ⟨0, _⟩ => show win0_0.index t 0 * 1 + 1 * 0 = t.val / 6; omega
  | ⟨1, _⟩ => show win0_0.index t 1 * 64 + 1 * l.val = 64 * (t.val % 6) + l.val; omega
  | ⟨2, _⟩ => show win0_0.index t 2 * 224 + 1 * h.val = h.val; omega
  | ⟨3, _⟩ => show win0_0.index t 3 * 224 + 1 * w.val = w.val; omega

theorem emb1 (t : Fin cfg0.N) (j : S1x1x64.Idx) :
    ((cfg0.win 1).blk t).view.emb j = ix3 (⟨t.val, t.isLt⟩ : Fin 24) (0 : Fin 1) (j 2) := by
  obtain ⟨e0, e1, e2⟩ := index1 t
  have h0 : (j 0).val < 1 := (j 0).isLt
  have h1 : (j 1).val < 1 := (j 1).isLt
  funext a; apply Fin.ext
  match a with
  | ⟨0, _⟩ => show win0_1.index t 0 * 1 + 1 * (j 0).val = t.val; omega
  | ⟨1, _⟩ => show win0_1.index t 1 * 1 + 1 * (j 1).val = 0; omega
  | ⟨2, _⟩ => show win0_1.index t 2 * 64 + 1 * (j 2).val = (j 2).val; omega

variable (V : Valuation τ sig (Elt Ideal)) (c : Dev nD)

/-- What a point writes back is its row of the means of the source. -/
theorem flushed (t : Fin cfg0.N) :
    (Run.dat0 V c).flushed 1 t = ((cfg0.win 1).blk t).view.read (Elt Ideal) (rowsOf (V main_arg0)) := by
  funext j
  show k0_pay1 (F := Ideal) (Run.xBlock V t) j = rowsOf (V main_arg0) (((cfg0.win 1).blk t).view.emb j)
  rw [emb1]
  obtain ⟨a, b, l, rfl⟩ : ∃ (a : Fin 1) (b : Fin 1) (l : Fin 64), j = ix3 a b l := ⟨j 0, j 1, j 2, eq_ix3 (n0 := 1) (n1 := 1) (n2 := 64) j⟩
  rw [pay_apply]
  unfold rowsOf
  rw [means_apply]
  refine congrArg (Ideal.div · _) (Finset.sum_congr rfl fun h _ => Finset.sum_congr rfl fun w _ => ?_)
  show V main_arg0 (((cfg0.win 0).blk t).view.emb (ix4 (0 : Fin 1) l h w)) = _
  rw [emb0]
  rfl

/-- Every row is some point's. -/
theorem covered (i : S24x1x64.Idx) : ∃ t : Fin cfg0.N, (cfg0.win 1).flush t = true ∧ i ∈ ((cfg0.win 1).blk t).view.set := by
  refine ⟨⟨(i 0).val, (i 0).isLt⟩, flush0_1 _, ?_⟩
  have h := ((cfg0.win 1).blk (⟨(i 0).val, (i 0).isLt⟩ : Fin cfg0.N)).view.emb_mem_set (ix3 (0 : Fin 1) (0 : Fin 1) (i 2))
  rw [emb1] at h
  obtain ⟨a, b, l, rfl⟩ : ∃ (a : Fin 24) (b : Fin 1) (l : Fin 64), i = ix3 a b l := ⟨i 0, i 1, i 2, eq_ix3 (n0 := 24) (n1 := 1) (n2 := 64) i⟩
  rw [Subsingleton.elim b 0]; exact h

/-- The pool's result array after the run. -/
theorem final : (Run.dat0 V c).arrAt 1 cfg0.N = rowsOf (V main_arg0) :=
  (Run.dat0 V c).arrAt_eq_of_cover 1 (rowsOf (V main_arg0)) (fun t _ => flushed V c t) covered

end Cert.Proof.Pool

namespace Cert.Proof.Run

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The kernel's pooled means are the reference's means of the source. -/
theorem pooled_eq : pooled m c = Ref.means (F := Ideal) (U0 m c main_arg0) := by
  have e : U1 m c main_v0 = Pool.rowsOf (U0 m c main_arg0) :=
    (Pipeline.afterRegion_arr (dat0 (U0 m c) c) (U0 m c) (by decide) 1).trans (Pool.final (U0 m c) c)
  funext j
  obtain ⟨b, l, rfl⟩ : ∃ (b : Fin 4) (l : Fin 384), j = ix2 b l := ⟨j 0, j 1, eq_ix2 (n0 := 4) (n1 := 384) j⟩
  unfold pooled
  rw [e, Pool.rows_apply]
  unfold Pool.rowsOf
  refine congrArg (Ref.means (F := Ideal) (U0 m c main_arg0)) ?_
  refine (ix2_inj _ _ _ _).2 ⟨Fin.ext ?_, Fin.ext ?_⟩
  · show (b.val * 6 + l.val / 64) / 6 = b.val; omega
  · show 64 * ((b.val * 6 + l.val / 64) % 6) + l.val % 64 = l.val; omega

end Cert.Proof.Run
-- ==== Proof.RankOrder.lean ====
/-
  The order the ranks count in: a greater score first, and of equal scores the lower position. The number of positions
  before one is its place in the stable sort, so the position a place names is the sort's.
-/
module

public import Idealize.ShloMosaic.Lib.SortPrefix
public import Mathlib.Data.EReal.Basic
public import Mathlib.Algebra.BigOperators.Fin

@[expose] public noncomputable section

namespace Cert.Proof.Order

open Idealize.ShloMosaic

variable {n : Nat} (r : Fin n → EReal)

/-- Position `j` comes before position `i`: its score is greater, or equal and `j` is lower. -/
def before (j i : Fin n) : Bool := decide (r i < r j) || (decide (r j = r i) && decide (j < i))

theorem strict : StrictTotalBefore (before r) := by
  have h := StrictTotalBefore.of_key_then_position (n := n) (fun a b : EReal => decide (b < a)) r (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  exact h

/-- The position at place `p` of the sort. -/
def place (p : Fin n) : Fin n := sortedFrom (before r) p

theorem place_bijective : Function.Bijective (place r) :=
  ⟨sortedFrom_injective _, sortedFrom_surjective _⟩

/-- An earlier place holds a position before a later place's. -/
theorem before_place {p q : Fin n} (h : p < q) : before r (place r p) (place r q) = true := by
  have hs : (sortPositions n (before r)).Pairwise fun a b => before r b a = false := (strict r).sorted_stableSort _
  have h0 : before r (place r q) (place r p) = false :=
    List.pairwise_iff_getElem.mp hs p q (by rw [length_sortPositions]; exact p.2) (by rw [length_sortPositions]; exact q.2) h
  rcases (strict r).total (place r p) (place r q) fun e => h.ne ((place_bijective r).1 e) with h1 | h1
  · exact h1
  · rw [h0] at h1; exact absurd h1 (by decide)

/-- The positions before `i`, counted. -/
def rank (i : Fin n) : ℕ := (Finset.univ.filter fun j => before r j i = true).card

/-- The count at place `p`'s position is `p`. -/
theorem rank_place (p : Fin n) : rank r (place r p) = p := by
  have e : (Finset.univ.filter fun j => before r j (place r p) = true) = (Finset.Iio p).map ⟨place r, (place_bijective r).1⟩ := by
    ext j
    obtain ⟨q, rfl⟩ := (place_bijective r).2 j
    simp only [Finset.mem_filter, Finset.mem_univ, true_and, Finset.mem_map, Finset.mem_Iio, Function.Embedding.coeFn_mk]
    constructor
    · intro h
      refine ⟨q, ?_, rfl⟩
      by_contra hq
      rcases (not_lt.mp hq).lt_or_eq with h1 | h1
      · have := (strict r).asymm _ _ h
        rw [before_place r h1] at this; exact absurd this (by decide)
      · rw [h1, (strict r).irrefl] at h; exact absurd h (by decide)
    · rintro ⟨q', hq', e⟩
      rw [← e]; exact before_place r hq'
  unfold rank
  rw [e, Finset.card_map, Fin.card_Iio]

theorem rank_lt (i : Fin n) : rank r i < n := by
  obtain ⟨p, rfl⟩ := (place_bijective r).2 i
  rw [rank_place]; exact p.2

/-- A position whose count is `p` is the one at place `p`. -/
theorem rank_eq_iff (p i : Fin n) : rank r i = p ↔ i = place r p := by
  obtain ⟨q, rfl⟩ := (place_bijective r).2 i
  rw [rank_place]
  exact ⟨fun h => congrArg _ (Fin.ext h), fun h => congrArg Fin.val ((place_bijective r).1 h)⟩

end Cert.Proof.Order
-- ==== Proof.RankValue.lean ====
/-
  One image's column of the ranking kernel: at place `p` it holds, as a word, the position at place `p` of the sort by
  greater score, equal scores by position.
-/
module

public import proofs.«01_k».proof.Proof.HostValue
public import proofs.«01_k».proof.Proof.RankOrder
public import Idealize.ShloMosaic.Lib.Pointwise
public import Idealize.ShloMosaic.Lib.IndicatorCount

@[expose] public section

noncomputable section

namespace Cert.Proof.Rank

open Cert.KernelIdeal Cert.KernelIdeal.Gen
open Idealize.ShloMosaic Idealize.ShloMosaic.TcCoe

/-- A sum of words of which all but one are zero is that one. -/
theorem fold_single {n : Nat} (a : Fin n) (c : BitVec 32) (f : Fin n → BitVec 32) (h : ∀ i, f i = if i = a then c else 0#32) :
    Finset.univ.fold IntOp.addi (0#32) f = c := by
  have hz : ∀ S : Finset (Fin n), a ∉ S → S.fold IntOp.addi (0#32) f = 0#32 := by
    intro S
    induction S using Finset.induction_on with
    | empty => intro _; rfl
    | insert b S hb ih =>
      intro hm
      rw [Finset.mem_insert, not_or] at hm
      rw [Finset.fold_insert hb, ih hm.2, h, if_neg (Ne.symm hm.1)]
      rfl
  rw [← Finset.insert_erase (Finset.mem_univ a), Finset.fold_insert (Finset.notMem_erase _ _), hz _ (Finset.notMem_erase _ _), h,
    if_pos rfl]
  exact BitVec.add_zero c

theorem ofNat_eq_iff {a b : Nat} (ha : a < 384) (hb : b < 384) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem slt_iff (a b : Fin 384) : (BitVec.ofNat 32 a.val).slt (BitVec.ofNat 32 b.val) = decide (a < b) := by
  rw [BitVec.slt_eq_decide]
  have e : ∀ x : Fin 384, (BitVec.ofNat 32 x.val).toInt = x.val := fun x => by
    rw [BitVec.toInt_eq_toNat_of_lt (by rw [BitVec.toNat_ofNat]; omega), BitVec.toNat_ofNat]; omega
  rw [e, e]
  exact decide_eq_decide.2 (by rw [Fin.lt_def]; omega)

/-- The comparison the kernel counts is the order's. -/
theorem word_eq (r : Fin 384 → EReal) (j i : Fin 384) :
    IntOp.ori (BitVec.ofBool (decide (r i < r j)))
      (IntOp.andi (BitVec.ofBool (decide (r j = r i))) (IntOp.cmpi .slt (BitVec.ofNat 32 j.val) (BitVec.ofNat 32 i.val)))
      = BitVec.ofBool (Order.before r j i) := by
  have e : IntOp.cmpi .slt (BitVec.ofNat 32 j.val) (BitVec.ofNat 32 i.val) = BitVec.ofBool (decide (j < i)) := by
    rw [← slt_iff]; rfl
  rw [e]
  unfold Order.before
  generalize decide (r i < r j) = x
  generalize decide (r j = r i) = y
  generalize decide (j < i) = z
  revert x y z; decide

/-- The positions before `i`, as the kernel counts them. -/
theorem count_eq (r : Fin 384 → EReal) (i : Fin 384) :
    (Finset.univ.fold IntOp.addi (0#32) fun j : Fin 384 => BitVec.setWidth 32 (BitVec.ofBool (Order.before r j i)))
      = BitVec.ofNat 32 (Order.rank r i) := by
  rw [IndicatorCount.fold_addi_setWidth_eq_card]
  unfold Order.rank
  refine congrArg (fun S : Finset (Fin 384) => BitVec.ofNat 32 S.card) (Finset.filter_congr fun j _ => ?_)
  cases Order.before r j i <;> decide

/-- Place `p` of an image's column, where both operands hold the scores `r`. -/
theorem pay_apply (r : Fin 384 → EReal) (p : Fin 192) :
    k1_pay2 (F := Ideal) (fun i : S1x384.Idx => r (i 1)) (fun i : S384x1.Idx => r (i 0)) (ix2 p 0)
      = BitVec.ofNat 32 (Order.place r (p.castLE (by decide))).val := by
  pointwise [k1_pay2]
  refine fold_single (Order.place r (p.castLE (by decide))) _ _ fun i => ?_
  refine (congrArg (fun z => Scalar.select (IntOp.cmpi .eq z (BitVec.ofNat 32 p.val)) (BitVec.ofNat 32 i.val) 0#32)
    ((congrArg (fun f : Fin 384 → BitVec 32 => Finset.univ.fold IntOp.addi (0#32) f)
      (funext fun j => congrArg (BitVec.setWidth 32) (word_eq r j i))).trans (count_eq r i))).trans ?_
  have hr := Order.rank_eq_iff r (p.castLE (by decide)) i
  have hc : IntOp.cmpi .eq (BitVec.ofNat 32 (Order.rank r i)) (BitVec.ofNat 32 p.val)
      = BitVec.ofBool (decide (i = Order.place r (p.castLE (by decide)))) := by
    show BitVec.ofBool (decide (_ = _)) = _
    refine congrArg BitVec.ofBool (decide_eq_decide.2 ?_)
    rw [ofNat_eq_iff (Order.rank_lt r i) (by omega), ← hr]
    rfl
  show Scalar.select (IntOp.cmpi .eq (BitVec.ofNat 32 (Order.rank r i)) (BitVec.ofNat 32 p.val)) (BitVec.ofNat 32 i.val) 0#32 = _
  rw [hc]
  by_cases h : i = Order.place r (p.castLE (by decide))
  · rw [if_pos h, decide_eq_true h, ← h]; rfl
  · rw [if_neg h, decide_eq_false h]; rfl

end Cert.Proof.Rank
-- ==== Proof.TableValue.lean ====
/-
  The kernel's table of channels at the extended reals: place `p` of image `b` holds, as a word, the channel at place
  `p` of the image's scores, greater first and equal ones by position.
-/
module

public import proofs.«01_k».proof.Proof.PoolValue
public import proofs.«01_k».proof.Proof.RankValue

@[expose] public section

noncomputable section

namespace Cert.Proof.Rank

open Cert.KernelIdeal Cert.KernelIdeal.Gen
open Idealize.ShloMosaic Idealize.ShloMosaic.TcCoe Idealize.ShloMosaic.StableHlo

theorem index0 : ∀ t : Fin cfg1.N, win1_0.index t 0 = 0 ∧ win1_0.index t 1 = 0 := (by decide +kernel : ∀ t : Fin grid1.N, _)
theorem index1 : ∀ t : Fin cfg1.N, win1_1.index t 0 = 0 ∧ win1_1.index t 1 = 0 := (by decide +kernel : ∀ t : Fin grid1.N, _)
theorem index2 : ∀ t : Fin cfg1.N, win1_2.index t 0 = 0 ∧ win1_2.index t 1 = 0 := (by decide +kernel : ∀ t : Fin grid1.N, _)

/-- Each window's one block is its whole array. -/
theorem emb0 (t : Fin cfg1.N) (j : S4x384.Idx) : ((cfg1.win 0).blk t).view.emb j = j := by
  obtain ⟨e0, e1⟩ := index0 t
  funext a; apply Fin.ext
  match a with
  | ⟨0, _⟩ => show win1_0.index t 0 * 4 + 1 * (j 0).val = (j 0).val; omega
  | ⟨1, _⟩ => show win1_0.index t 1 * 384 + 1 * (j 1).val = (j 1).val; omega

theorem emb1 (t : Fin cfg1.N) (j : S384x4.Idx) : ((cfg1.win 1).blk t).view.emb j = j := by
  obtain ⟨e0, e1⟩ := index1 t
  funext a; apply Fin.ext
  match a with
  | ⟨0, _⟩ => show win1_1.index t 0 * 384 + 1 * (j 0).val = (j 0).val; omega
  | ⟨1, _⟩ => show win1_1.index t 1 * 4 + 1 * (j 1).val = (j 1).val; omega

theorem emb2 (t : Fin cfg1.N) (j : S192x4.Idx) : ((cfg1.win 2).blk t).view.emb j = j := by
  obtain ⟨e0, e1⟩ := index2 t
  funext a; apply Fin.ext
  match a with
  | ⟨0, _⟩ => show win1_2.index t 0 * 192 + 1 * (j 0).val = (j 0).val; omega
  | ⟨1, _⟩ => show win1_2.index t 1 * 4 + 1 * (j 1).val = (j 1).val; omega

variable (V : Valuation τ sig (Elt Ideal)) (c : Dev nD)

theorem rBlock_eq (t : Fin cfg1.N) : Run.rBlock V t = V main_v25 := by
  funext j; show V main_v25 (((cfg1.win 0).blk t).view.emb j) = V main_v25 j; rw [emb0]

theorem rtBlock_eq (t : Fin cfg1.N) : Run.rtBlock V t = V main_v26 := by
  funext j; show V main_v26 (((cfg1.win 1).blk t).view.emb j) = V main_v26 j; rw [emb1]

theorem flushed (t : Fin cfg1.N) :
    (Run.dat1 V c).flushed 2 t = ((cfg1.win 2).blk t).view.read (Elt Ideal) (places (F := Ideal) (V main_v25) (V main_v26)) := by
  have e : (Run.dat1 V c).after 2 t = places (Run.rBlock V t) (Run.rtBlock V t) := by dsimp only [Run.dat1]
  rw [rBlock_eq, rtBlock_eq] at e
  show (cfg1.win 2).cut (grid1.coords t) ((Run.dat1 V c).after 2 t) = _
  rw [e]
  generalize places (F := Ideal) (V main_v25) (V main_v26) = G
  funext j
  show G j = G (((cfg1.win 2).blk t).view.emb j)
  rw [emb2]

theorem covered (i : S192x4.Idx) : ∃ t : Fin cfg1.N, (cfg1.win 2).flush t = true ∧ i ∈ ((cfg1.win 2).blk t).view.set := by
  refine ⟨⟨0, by decide⟩, flush1_2 _, ?_⟩
  have h := ((cfg1.win 2).blk (⟨0, by decide⟩ : Fin cfg1.N)).view.emb_mem_set i
  rw [emb2] at h
  exact h

/-- The ranking's result array after the run. -/
theorem final : (Run.dat1 V c).arrAt 2 cfg1.N = places (F := Ideal) (V main_v25) (V main_v26) :=
  (Run.dat1 V c).arrAt_eq_of_cover 2 (places (F := Ideal) (V main_v25) (V main_v26)) (fun t _ => flushed V c t) covered

/-- A place of an image where the two operands are the scores and their transpose. -/
theorem places_apply (s : S4x384.Idx → Elt Ideal .f32) (b : Fin 4) (p : Fin 192) :
    places (F := Ideal) s (transpose S384x4 [1, 0] s transposes_S4x384_S384x4_1_0) (ix2 p b)
      = BitVec.ofNat 32 (Order.place (fun i => s (ix2 b i)) (p.castLE (by decide))).val := by
  have e : (fun i : S384x1.Idx => transpose S384x4 [1, 0] s transposes_S4x384_S384x4_1_0 (ix2 (n0 := 384) (n1 := 4) (i 0) b))
      = fun i : S384x1.Idx => s (ix2 b (i 0)) := by
    funext i
    obtain ⟨a, z, rfl⟩ : ∃ (a : Fin 384) (z : Fin 1), i = ix2 a z := ⟨i 0, i 1, eq_ix2 (n0 := 384) (n1 := 1) i⟩
    pointwise []
  refine Eq.trans ?_ (pay_apply (fun i => s (ix2 b i)) p)
  unfold places column
  exact congrArg (fun f => k1_pay2 (F := Ideal) (fun i : S1x384.Idx => s (ix2 b (i 1))) f (ix2 p 0)) e

end Cert.Proof.Rank

namespace Cert.Proof.Run

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The scores the reference sorts by. -/
def scored : S4x384.Idx → Elt Ideal .f32 := Ref.scores (F := Ideal) (Ref.means (F := Ideal) (U0 m c main_arg0)) (U0 m c main_arg1)

/-- The channel at place `p` of image `b`. -/
def channel (b : Fin 4) (p : Fin 192) : Fin 384 := Order.place (fun i => scored m c (ix2 b i)) (p.castLE (by decide))

/-- The kernel's table. -/
theorem table_apply (b : Fin 4) (p : Fin 192) : U6 m c main_v28 (ix2 (n0 := 4) (n1 := 192) b p) = BitVec.ofNat 32 (channel m c b p).val := by
  have e5 : U5 m c main_v27 = Rank.places (F := Ideal) (U4 m c main_v25) (U4 m c main_v26) :=
    (Pipeline.afterRegion_arr (dat1 (U4 m c) c) (U4 m c) winFacts1.arr_inj 2).trans (Rank.final (U4 m c) c)
  have e4 : U4 m c main_v25 = scored m c := by rw [U4_v25, pooled_eq]; rfl
  rw [U4_v26, e4] at e5
  have ht : ∀ v : S192x4.Idx → BitVec 32, transpose S4x192 [1, 0] v transposes_S192x4_S4x192_1_0 (ix2 b p) = v (ix2 p b) := fun v => by
    pointwise []
  rw [U6_v28, e5]
  exact (ht _).trans (Rank.places_apply (scored m c) b p)

/-- A word of the table, at any numbers of image and place. -/
theorem word_table (b j : ℕ) : Gather.word c (U6 m c main_v28) b j
    = BitVec.ofNat 32 (channel m c ⟨b % 4, Nat.mod_lt _ (by decide)⟩ ⟨j % 192, Nat.mod_lt _ (by decide)⟩).val := by
  rw [← table_apply]
  unfold Gather.word
  refine congrArg (U6 m c main_v28) ?_
  funext a
  match a with
  | ⟨0, _⟩ => rfl
  | ⟨1, _⟩ => rfl

theorem toNat_channel (b : Fin 4) (p : Fin 192) : (BitVec.ofNat 32 (channel m c b p).val).toNat = (channel m c b p).val := by
  have := (channel m c b p).isLt
  rw [BitVec.toNat_ofNat]; omega

/-- Every word of the table is a channel. -/
theorem table_lt (c c' : Dev nD) (b j : ℕ) : (Gather.word c' (U6 m c main_v28) b j).toNat < 384 := by
  show (Gather.word c (U6 m c main_v28) b j).toNat < 384
  rw [word_table, toNat_channel]
  exact (channel m c _ _).isLt

end Cert.Proof.Run
-- ==== Proof.SortValue.lean ====
/-
  The reference's argsort at the extended reals: of the negated scores, stable, it holds at place `p` the position at
  place `p` of the order by greater score, equal scores by position.
-/
module

public import proofs.«01_k».proof.Proof.Ref
public import proofs.«01_k».proof.Proof.RankOrder
public import Idealize.ShloMosaic.Lib.Pointwise
public import Idealize.ShloMosaic.Lib.SortFacts

@[expose] public section

noncomputable section

namespace Cert.Proof.Ref

open Cert.ReferenceIdeal Cert.ReferenceIdeal.Gen
open Idealize.ShloMosaic Idealize.ShloMosaic.TcCoe

/-- A stable sort asks its order only whether a later element comes before an earlier one. -/
theorem stableSort_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- So the stable sort by greater score alone is the order's. -/
theorem sortedFrom_eq_place {n : Nat} (r : Fin n → EReal) (R : Fin n → Fin n → Bool) (hR : ∀ k k', R k k' = decide (r k' < r k)) :
    sortedFrom R = Order.place r := by
  have e : sortPositions n R = sortPositions n (Order.before r) := by
    refine stableSort_of_later _ _ _ ((List.pairwise_lt_finRange n).imp fun {a b} hab => ?_)
    rw [hR]
    unfold Order.before
    rw [decide_eq_false (p := b < a) (not_lt.2 hab.le), Bool.and_false, Bool.or_false]
  funext k
  unfold Order.place sortedFrom
  rw [List.get_of_eq e]
  rfl

/-- The comparison of two negated scores: whether the first score is greater. -/
theorem comparator_eq (a b : EReal) (u v : BitVec 32) :
    comparator_f32_i32_d1 (F := Ideal) (-a, u) (-b, v) = BitVec.ofBool (decide (b < a)) := by
  have h0 : ∀ z : EReal, Scalar.select (FloatOps.cmpf (F := Ideal) (φ := .f32) .oeq z (FloatOps.ofBits .f32 0x00000000#32))
      (FloatOps.ofBits (F := Ideal) .f32 0x00000000#32) z = z := fun z => by
    by_cases h : z = FloatOps.ofBits (F := Ideal) .f32 0x00000000#32
    · rw [← h]; unfold Scalar.select; split <;> rfl
    · have : FloatOps.cmpf (F := Ideal) (φ := .f32) .oeq z (FloatOps.ofBits .f32 0x00000000#32) = 0#1 := by
        show BitVec.ofBool (decide (z = _)) = _
        rw [decide_eq_false h]; rfl
      rw [this]; rfl
  have h1 : ∀ z w y : EReal, Scalar.select (FloatOps.cmpf (F := Ideal) (φ := .f32) .une z z) w y = y := fun z w y => by
    have : FloatOps.cmpf (F := Ideal) (φ := .f32) .une z z = 0#1 := by
      show BitVec.ofBool (decide (z ≠ z)) = _
      rw [decide_eq_false (not_not.2 rfl)]; rfl
    rw [this]; rfl
  unfold comparator_f32_i32_d1
  dsimp only
  erw [h0, h0, h1, h1]
  show BitVec.ofBool (decide (-a < -b)) = _
  exact congrArg BitVec.ofBool (decide_eq_decide.2 EReal.neg_lt_neg_iff)

/-- A position of an image's row. -/
theorem along_row (b : Fin 4) (q k : Fin 384) : Shape.Idx.along (s := S4x384) (ix2 b q) (1 : Fin 2) k = ix2 b k := by
  funext a
  match a with
  | ⟨0, _⟩ => rfl
  | ⟨1, _⟩ => rfl

/-- What a sort of pairs along the rows carries: the second operand at the row's sorted positions. -/
theorem sort2_apply {α β : Type} (cmp : α × β → α × β → BitVec 1) (x : S4x384.Idx → α) (y : S4x384.Idx → β) (b : Fin 4) (q : Fin 384) :
    (Host.sort2 S4x384 1 cmp x y).2 (ix2 b q)
      = y (ix2 b (sortedFrom (fun k k' : Fin 384 => cmp (x (ix2 b k), y (ix2 b k)) (x (ix2 b k'), y (ix2 b k')) == 1#1) q)) := by
  have e : (fun k k' : Fin 384 => cmp (x (Shape.Idx.along (s := S4x384) (ix2 b q) (1 : Fin 2) k), y (Shape.Idx.along (s := S4x384) (ix2 b q) (1 : Fin 2) k))
      (x (Shape.Idx.along (s := S4x384) (ix2 b q) (1 : Fin 2) k'), y (Shape.Idx.along (s := S4x384) (ix2 b q) (1 : Fin 2) k')) == 1#1)
      = fun k k' : Fin 384 => cmp (x (ix2 b k), y (ix2 b k)) (x (ix2 b k'), y (ix2 b k')) == 1#1 := by
    funext k k'
    rw [along_row, along_row]
  rw [← e]
  refine Eq.trans ?_ (congrArg y (along_row b q _))
  unfold Host.sort2
  rw [dif_pos (show 1 < S4x384.rank by decide)]
  rfl

/-- Place `p` of the reference's argsort of the negated scores `s`. -/
theorem firsts_apply (s : S4x384.Idx → Elt Ideal .f32) (b : Fin 4) (p : Fin 192) :
    firsts (F := Ideal) (Host.negf (F := Ideal) (φ := .f32) s) (ix2 b p)
      = BitVec.ofNat 32 (Order.place (fun i => s (ix2 b i)) (p.castLE (by decide))).val := by
  have hs : ∀ q : Fin 384, (Host.sort2 S4x384 1 (comparator_f32_i32_d1 (F := Ideal)) (Host.negf (F := Ideal) (φ := .f32) s)
      (iotaInDim S4x384 32 1)).2 (ix2 b q) = BitVec.ofNat 32 (Order.place (fun i => s (ix2 b i)) q).val := fun q => by
    rw [sort2_apply, sortedFrom_eq_place (fun i => s (ix2 b i)) _ fun k k' => ?_]
    · rfl
    · refine (congrArg (· == 1#1) (comparator_eq (s (ix2 b k)) (s (ix2 b k')) _ _)).trans ?_
      cases decide (s (ix2 b k') < s (ix2 b k)) <;> rfl
  rw [← hs]
  unfold firsts
  pointwise []
  rfl

end Cert.Proof.Ref
-- ==== Proof.TakeValue.lean ====
/-
  The reference's gather: where the indices are channels, each result channel is the channel of its image that its
  index names.
-/
module

public import proofs.«01_k».proof.Proof.Ref
public import Idealize.ShloMosaic.Lib.Pointwise
public import Idealize.ShloMosaic.Lib.ValueIdxCore
public import Idealize.ShloMosaic.Lib.DynamicIndex

@[expose] public section

noncomputable section

namespace Cert.Proof.Ref

open Cert.ReferenceIdeal Cert.ReferenceIdeal.Gen
open Idealize.ShloMosaic Idealize.ShloMosaic.TcCoe

local notation "dims" => gather_S4x384x224x224_S4x192x1_S4x192x224x224_23_1_0_0_1_2_11224224

/-- The gather at an index: the operand's channel at the index word, read signed and kept inside the channels. -/
theorem gather_apply {α : Type} (x : S4x384x224x224.Idx → α) (i : IVec S4x192x1 32) (b : Fin 4) (p : Fin 192) (h w : Fin 224) :
    Host.gather dims x i (ix4 b p h w)
      = x (ix4 b (⟨min (i (ix3 b p 0)).toInt.toNat 383, by omega⟩ : Fin 384) h w) := by
  unfold Host.gather
  refine congrArg x ?_
  funext a
  refine Fin.ext ?_
  show (dims).start (ix4 b p h w) i a + (dims).batchCoord (ix4 b p h w) a + (dims).offCoord (ix4 b p h w) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have hb : ∀ k : Fin 4, k ≠ 0 → k ∉ (dims).operandBatchingDims := fun k hk hm => hk (List.mem_singleton.mp hm)
  have hc : ∀ k : Fin 4, k ≠ 1 → k ∉ (dims).startIndexMap := fun k hk hm => hk (List.mem_singleton.mp hm)
  rcases ha with rfl | rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ (dims).operandBatchingDims from List.mem_singleton.mpr rfl)]
    rfl
  · rw [GatherDims.batchCoord_eq_zero _ _ _ (hb 1 (by decide)),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (dims).startIndexMap from List.mem_singleton.mpr rfl)]
    have hsi : (dims).siIdx (ix4 b p h w) ⟨List.idxOf (1 : Fin 4) (dims).startIndexMap,
        List.idxOf_lt_length_iff.2 (List.mem_singleton.mpr rfl)⟩ = ix3 b p 0 := by
      funext k; refine Fin.ext ?_
      match k with
      | ⟨0, _⟩ => rfl
      | ⟨1, _⟩ => rfl
      | ⟨2, _⟩ => rfl
    rw [hsi]
    rfl
  · rw [GatherDims.batchCoord_eq_zero _ _ _ (hb 2 (by decide))]
    unfold GatherDims.start
    rw [dif_neg (hc 2 (by decide))]
    simp only [Nat.zero_add]
    rfl
  · rw [GatherDims.batchCoord_eq_zero _ _ _ (hb 3 (by decide))]
    unfold GatherDims.start
    rw [dif_neg (hc 3 (by decide))]
    simp only [Nat.zero_add]
    rfl

variable {F : FTy → Type} [FloatOps F]

theorem toInt_channel {k : Nat} (h : k < 384) : (BitVec.ofNat 32 k).toInt = k := by
  rw [BitVec.toInt_eq_toNat_of_lt (by rw [BitVec.toNat_ofNat]; omega), BitVec.toNat_ofNat]; omega

/-- An index that is a channel is not wrapped. -/
theorem wrapped_apply (i : S4x192.Idx → BitVec 32) (b : Fin 4) (p : Fin 192) (k : Nat) (hk : k < 384)
    (hi : i (ix2 b p) = BitVec.ofNat 32 k) :
    wrapped (F := F) (broadcastInDim S4x192x1x1 ![0, 1] bcast_S4x192_S4x192x1x1_0_1 i) (ix3 b p 0) = BitVec.ofNat 32 k := by
  pointwise [wrapped]
  rw [hi]
  have e : IntOp.cmpi .slt (BitVec.ofNat 32 k) 0#32 = 0#1 := by
    show BitVec.ofBool ((BitVec.ofNat 32 k).slt 0#32) = _
    have : (BitVec.ofNat 32 k).slt 0#32 = false := by
      rw [BitVec.slt_eq_decide, toInt_channel hk]
      exact decide_eq_false (by simp)
    rw [this]; rfl
  rw [e]; rfl

/-- An index that is a channel is inside. -/
theorem inside_apply (i : S4x192x1.Idx → BitVec 32) (b : Fin 4) (p : Fin 192) (k : Nat) (hk : k < 384)
    (hi : i (ix3 b p 0) = BitVec.ofNat 32 k) : inside (F := F) i (ix2 b p) = 1#1 := by
  pointwise [inside]
  rw [show (Finset.univ : Finset (Fin 1)) = {0} from rfl, Finset.fold_singleton, hi]
  have e0 : IntOp.cmpi .sge (BitVec.ofNat 32 k) 0#32 = 1#1 := by
    show BitVec.ofBool ((0#32).sle (BitVec.ofNat 32 k)) = _
    have : (0#32).sle (BitVec.ofNat 32 k) = true := by
      rw [BitVec.sle_eq_decide, toInt_channel hk]
      exact decide_eq_true (by simp)
    rw [this]; rfl
  have e1 : IntOp.cmpi .sle (BitVec.ofNat 32 k) 383#32 = 1#1 := by
    show BitVec.ofBool ((BitVec.ofNat 32 k).sle 383#32) = _
    have : (BitVec.ofNat 32 k).sle 383#32 = true := by
      rw [BitVec.sle_eq_decide, toInt_channel hk]
      exact decide_eq_true (by show (k : Int) ≤ 383; omega)
    rw [this]; rfl
  rw [e0, e1]; rfl

theorem spread_apply (v : S4x192.Idx → BitVec 1) (b : Fin 4) (p : Fin 192) (h w : Fin 224) :
    broadcastInDim S4x192x224x224 ![0, 1] bcast_S4x192_S4x192x224x224_0_1 v (ix4 b p h w) = v (ix2 b p) := by
  pointwise []

/-- The channels taken, at an index whose word is a channel. -/
theorem taken_apply (x : S4x384x224x224.Idx → Elt F .f32) (i : S4x192.Idx → BitVec 32) (b : Fin 4) (p : Fin 192) (h w : Fin 224)
    (k : Fin 384) (hi : i (ix2 b p) = BitVec.ofNat 32 k.val) :
    taken x (broadcastInDim S4x192x1x1 ![0, 1] bcast_S4x192_S4x192x1x1_0_1 i) (ix4 b p h w) = x (ix4 b k h w) := by
  have hw := wrapped_apply (F := F) i b p k.val k.isLt hi
  have hin := inside_apply (F := F) _ b p k.val k.isLt hw
  unfold taken
  rw [ValueIdx.select_apply, spread_apply, hin, ValueIdx.select_one, gather_apply]
  refine congrArg (fun c => x (ix4 b c h w)) (Fin.ext ?_)
  show min (BitVec.toInt _).toNat 383 = k.val
  rw [hw, toInt_channel k.isLt, Int.toNat_natCast]; omega

end Cert.Proof.Ref
-- ==== Proof.Equation.lean ====
/-
  At the extended reals the kernel's result is the reference's: both hold at `(b, p)` the channel of image `b` that is at
  place `p` of the image's scores.
-/
module

public import proofs.«01_k».proof.Proof.TableValue
public import proofs.«01_k».proof.Proof.SortValue
public import proofs.«01_k».proof.Proof.TakeValue

@[expose] public section

noncomputable section

namespace Cert.Proof.Run

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The kernel's result at an index. -/
theorem gathered_apply (b : Fin 4) (p : Fin 192) (h w : Fin 224) :
    Gather.gathered c (U6 m c main_v28) (U6 m c main_arg0) (ix4 b p h w)
      = U0 m c main_arg0 (ix4 (n0 := 4) (n1 := 384) (n2 := 224) (n3 := 224) b (channel m c b p) h w) := by
  rw [U6_arg0]
  have hb : (⟨b.val % 4, Nat.mod_lt _ (by decide)⟩ : Fin 4) = b := Fin.ext (Nat.mod_eq_of_lt b.isLt)
  have hp : (⟨p.val % 192, Nat.mod_lt _ (by decide)⟩ : Fin 192) = p := Fin.ext (Nat.mod_eq_of_lt p.isLt)
  show U0 m c main_arg0 (Gather.xIdx b.val (Gather.word c (U6 m c main_v28) b.val p.val).toNat h w) = _
  rw [word_table, hb, hp, toNat_channel]
  refine congrArg (U0 m c main_arg0) ?_
  funext a
  match a with
  | ⟨0, _⟩ => exact hb
  | ⟨1, _⟩ => exact Fin.ext (Nat.mod_eq_of_lt (channel m c b p).isLt)
  | ⟨2, _⟩ => rfl
  | ⟨3, _⟩ => rfl

/-- The kernel's result is the reference's of the same arguments. -/
theorem result_eq : U7 m c main_v29 = Ref.result (F := Ideal) (U0 m c main_arg0) (U0 m c main_arg1) := by
  have e : U7 m c main_v29 = Gather.gathered c (U6 m c main_v28) (U6 m c main_arg0) := by
    unfold U7 afterGather
    exact Function.update_self _ _ _
  rw [e]
  funext j
  obtain ⟨b, p, h, w, rfl⟩ : ∃ (b : Fin 4) (p : Fin 192) (h w : Fin 224), j = ix4 b p h w :=
    ⟨j 0, j 1, j 2, j 3, eq_ix4 (n0 := 4) (n1 := 192) (n2 := 224) (n3 := 224) j⟩
  refine (gathered_apply m c b p h w).trans ?_
  exact (Ref.taken_apply (F := Ideal) (U0 m c main_arg0) _ b p h w (channel m c b p) (Ref.firsts_apply (scored m c) b p)).symm

end Cert.Proof.Run
-- ==== Proof.lean ====
/-
  The proof of `Cert.Claim`: both programs run, leave their arguments and every semaphore counter as they were, and at
  the extended reals end with the same result. The kernel's run is `Run.run_main`, whose table of channels is in range by
  `Run.table_lt`; the reference's is `Ref.run_main`; the results are equal by `Run.result_eq`.
-/
module

public import proofs.«01_k».proof.Defs
public import proofs.«01_k».proof.Proof.Equation
public import Idealize.ShloMosaic.Lib.Quiescent

@[expose] public section

noncomputable section

namespace Cert.Proof

open Idealize.ShloMosaic Idealize.ShloMosaic.TcCoe Idealize.SL.Sem

/-- The table of channels of any launch is in range. -/
theorem table_in_range (m : (ℓ : Loc Cert.KernelIdeal.nD Cert.KernelIdeal.τ Cert.KernelIdeal.sig) → Buf (Elt Ideal) ℓ) :
    ∀ c b j, (Gather.word c (Run.U6 m 0 Cert.KernelIdeal.main_v28) b j).toNat < 384 := fun c b j => Run.table_lt m 0 c b j

/-- The kernel runs, and leaves its arguments and every semaphore counter as they were. -/
theorem kernel_frame : Cert.quiescent_KernelIdeal (hKernelIdeal := Cert.KernelIdeal.Gen.facts) := fun m ρ _ =>
  (θ_run Cert.KernelIdeal.defs _ _).mono (fun _ h => ⟨fun c => (h.1 c).2, h.2⟩) (Run.run_main m (table_in_range m) ρ)

/-- The reference runs, and leaves its arguments and every semaphore counter as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Ref.run_main m ρ)

/-- At the extended reals the two programs end with the same result. -/
theorem equal : Cert.algebraic_KernelIdeal_ReferenceIdeal (hKernelIdeal := Cert.KernelIdeal.Gen.facts)
    (hReferenceIdeal := Cert.ReferenceIdeal.Gen.facts) := fun m ρ m' ρ' _ hag =>
  ⟨fun c => Run.U7 m c Cert.KernelIdeal.main_v29,
    (θ_run Cert.KernelIdeal.defs _ _).mono (fun _ h => h.1) (Run.run_main m (table_in_range m) ρ),
    (θ_run Cert.ReferenceIdeal.defs _ _).mono (fun _ h c => ⟨(h c).1.trans (by
      rw [(hag c).1, (hag c).2]
      exact (Run.result_eq m c).symm), (h c).2⟩) (Ref.run_main m' ρ')⟩

theorem claim : Cert.Claim :=
  ⟨Cert.KernelIdeal.Gen.facts, Cert.ReferenceIdeal.Gen.facts, kernel_frame, reference_frame, equal⟩

end Cert.Proof

end
